-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![8, 512, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨3, ![1, 512, 1024]⟩ ⟨3, ![8, 512, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S1024x3072 : Shape := ⟨2, ![1024, 3072]⟩
abbrev S8x512x1024 : Shape := ⟨3, ![8, 512, 1024]⟩
abbrev S7x512x1024 : Shape := ⟨3, ![7, 512, 1024]⟩
abbrev S3x512x1024 : Shape := ⟨3, ![3, 512, 1024]⟩
abbrev S4x512x1024 : Shape := ⟨3, ![4, 512, 1024]⟩
abbrev S8 : Shape := ⟨1, ![8]⟩
abbrev S7 : Shape := ⟨1, ![7]⟩
abbrev S_ : Shape := ⟨0, ![]⟩
abbrev S1 : Shape := ⟨1, ![1]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S512x1024, .f32⟩
  | .hbm, ⟨6, _⟩ => ⟨S512x1024, .bf16⟩
  | .hbm, ⟨7, _⟩ => ⟨S1024x3072, .f32⟩
  | .hbm, ⟨8, _⟩ => ⟨S1024x3072, .bf16⟩
  | .hbm, ⟨9, _⟩ => ⟨S1024x1024, .bf16⟩
  | .hbm, ⟨10, _⟩ => ⟨S1x512x1024, .f32⟩
  | .local _ .vmem, ⟨0, _⟩ => ⟨S512x1024, .bf16⟩
  | .local _ .vmem, ⟨1, _⟩ => ⟨S1024x3072, .bf16⟩
  | .local _ .vmem, ⟨2, _⟩ => ⟨S1024x1024, .bf16⟩
  | .local _ .vmem, ⟨3, _⟩ => ⟨S1x512x1024, .f32⟩
  | .local _ .vmem, ⟨4, _⟩ => ⟨S8x512x1024, .bf16⟩
  | .local _ .vmem, ⟨5, _⟩ => ⟨S7x512x1024, .bf16⟩
  | .local _ .vmem, ⟨6, _⟩ => ⟨S3x512x1024, .bf16⟩
  | .local _ .vmem, ⟨7, _⟩ => ⟨S4x512x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : Index := Scalar.indexCast v2
  let c0_65 : Index := 0#32
  let c0_66 : Index := 0#32
  ![v97.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_71 : BitVec 32 := 0#32
  let c0_i32_72 : BitVec 32 := 0#32
  ![v2.toNat, 0, 0]
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v101 : BitVec 32 := Scalar.xori v2 c1_i32_67
  let c1_i32_69 : BitVec 32 := 1#32
  let v102 : BitVec 32 := Scalar.muli v101 c1_i32_69
  let v103 : BitVec 32 := Scalar.addi c0_i32_70 v102
  v103.toNat
def k0_dev9 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_75 : BitVec 32 := 3#32
  let v112 : BitVec 32 := Scalar.xori v2 c3_i32_75
  let c1_i32_77 : BitVec 32 := 1#32
  let v113 : BitVec 32 := Scalar.muli v112 c1_i32_77
  let v114 : BitVec 32 := Scalar.addi c0_i32_78 v113
  v114.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_83 : BitVec 32 := 4#32
  let v123 : BitVec 32 := Scalar.xori v2 c4_i32_83
  let c1_i32_85 : BitVec 32 := 1#32
  let v124 : BitVec 32 := Scalar.muli v123 c1_i32_85
  let v125 : BitVec 32 := Scalar.addi c0_i32_86 v124
  v125.toNat
def k0_off4 (d0 : Dev nD) (c1_i32_145 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v293 : BitVec 32 := Scalar.xori v2 c1_i32_145
  ![v293.toNat]
def k0_off5 (d0 : Dev nD) (c1_i32_145 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v293 : BitVec 32 := Scalar.xori v2 c1_i32_145
  let c0_i32_149 : BitVec 32 := 0#32
  let c0_i32_150 : BitVec 32 := 0#32
  ![v293.toNat, 0, 0]
def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_153 : BitVec 32 := 3#32
  let v302 : BitVec 32 := Scalar.xori v2 c3_i32_153
  let c1_i32_155 : BitVec 32 := 1#32
  let v303 : BitVec 32 := Scalar.muli v302 c1_i32_155
  let v304 : BitVec 32 := Scalar.addi c0_i32_156 v303
  v304.toNat
def k0_off6 (d0 : Dev nD) (c1_i32_145 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v293 : BitVec 32 := Scalar.xori v2 c1_i32_145
  let v313 : Index := Scalar.indexCast v293
  let c0_161 : Index := 0#32
  let c0_162 : Index := 0#32
  ![v313.toNat, 0, 0]
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_226 : BitVec 32 := 4#32
  let v482 : BitVec 32 := Scalar.xori v2 c4_i32_226
  let c1_i32_228 : BitVec 32 := 1#32
  let v483 : BitVec 32 := Scalar.muli v482 c1_i32_228
  let v484 : BitVec 32 := Scalar.addi c0_i32_229 v483
  v484.toNat
def k0_dev13 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_298 : BitVec 32 := 1#32
  let v662 : BitVec 32 := Scalar.xori v2 c1_i32_298
  let c1_i32_300 : BitVec 32 := 1#32
  let v663 : BitVec 32 := Scalar.muli v662 c1_i32_300
  let v664 : BitVec 32 := Scalar.addi c0_i32_301 v663
  v664.toNat
def k0_dev14 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v842 : BitVec 32 := Scalar.xori v2 c1_i32_370
  let c1_i32_372 : BitVec 32 := 1#32
  let v843 : BitVec 32 := Scalar.muli v842 c1_i32_372
  let v844 : BitVec 32 := Scalar.addi c0_i32_373 v843
  v844.toNat
def k0_dev15 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_434 : BitVec 32 := 4#32
  let v1013 : BitVec 32 := Scalar.xori v2 c4_i32_434
  let c1_i32_439 : BitVec 32 := 1#32
  let v1014 : BitVec 32 := Scalar.muli v1013 c1_i32_439
  let v1015 : BitVec 32 := Scalar.addi c0_i32_440 v1014
  v1015.toNat
def k0_dev16 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_510 : BitVec 32 := 3#32
  let v1193 : BitVec 32 := Scalar.xori v2 c3_i32_510
  let c1_i32_515 : BitVec 32 := 1#32
  let v1194 : BitVec 32 := Scalar.muli v1193 c1_i32_515
  let v1195 : BitVec 32 := Scalar.addi c0_i32_516 v1194
  v1195.toNat
def k0_dev17 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v1373 : BitVec 32 := Scalar.xori v2 c1_i32_586
  let c1_i32_591 : BitVec 32 := 1#32
  let v1374 : BitVec 32 := Scalar.muli v1373 c1_i32_591
  let v1375 : BitVec 32 := Scalar.addi c0_i32_592 v1374
  v1375.toNat
def k0_dev18 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_662 : BitVec 32 := 6#32
  let v1553 : BitVec 32 := Scalar.xori v2 c6_i32_662
  let c1_i32_667 : BitVec 32 := 1#32
  let v1554 : BitVec 32 := Scalar.muli v1553 c1_i32_667
  let v1555 : BitVec 32 := Scalar.addi c0_i32_668 v1554
  v1555.toNat
def k0_dev19 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_691 : BitVec 32 := 3#32
  let v1583 : BitVec 32 := Scalar.xori v2 c3_i32_691
  let c1_i32_696 : BitVec 32 := 1#32
  let v1584 : BitVec 32 := Scalar.muli v1583 c1_i32_696
  let v1585 : BitVec 32 := Scalar.addi c0_i32_697 v1584
  v1585.toNat
def k0_dev20 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_720 : BitVec 32 := 1#32
  let v1613 : BitVec 32 := Scalar.xori v2 c1_i32_720
  let c1_i32_725 : BitVec 32 := 1#32
  let v1614 : BitVec 32 := Scalar.muli v1613 c1_i32_725
  let v1615 : BitVec 32 := Scalar.addi c0_i32_726 v1614
  v1615.toNat
def k0_dev21 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_749 : BitVec 32 := 4#32
  let v1643 : BitVec 32 := Scalar.xori v2 c4_i32_749
  let c1_i32_754 : BitVec 32 := 1#32
  let v1644 : BitVec 32 := Scalar.muli v1643 c1_i32_754
  let v1645 : BitVec 32 := Scalar.addi c0_i32_755 v1644
  v1645.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x512x1024 : Shape := ⟨3, ![8, 512, 1024]⟩
abbrev S1024x8192 : Shape := ⟨2, ![1024, 8192]⟩
abbrev S8192x1024 : Shape := ⟨2, ![8192, 1024]⟩
abbrev S8x512x8192 : Shape := ⟨3, ![8, 512, 8192]⟩
abbrev S8x512x64x128 : Shape := ⟨4, ![8, 512, 64, 128]⟩
abbrev S_ : Shape := ⟨0, ![]⟩
abbrev S8x64x512x1 : Shape := ⟨4, ![8, 64, 512, 1]⟩
abbrev S8x64x512x512 : Shape := ⟨4, ![8, 64, 512, 512]⟩
abbrev S8x64x512 : Shape := ⟨3, ![8, 64, 512]⟩
abbrev S8x512x64x1 : Shape := ⟨4, ![8, 512, 64, 1]⟩
abbrev S8x64x128x512 : Shape := ⟨4, ![8, 64, 128, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S8x512x8192, .f32⟩
  | .hbm, ⟨6, _⟩ => ⟨S8x512x64x128, .f32⟩
  | .hbm, ⟨7, _⟩ => ⟨S8x512x8192, .f32⟩
  | .hbm, ⟨8, _⟩ => ⟨S8x512x64x128, .f32⟩
  | .hbm, ⟨9, _⟩ => ⟨S8x512x8192, .f32⟩
  | .hbm, ⟨10, _⟩ => ⟨S8x512x64x128, .f32⟩
  | .hbm, ⟨11, _⟩ => ⟨S_, .f32⟩
  | .hbm, ⟨12, _⟩ => ⟨S8x512x64x128, .f32⟩
  | .hbm, ⟨13, _⟩ => ⟨S_, .f32⟩
  | .hbm, ⟨14, _⟩ => ⟨S8x64x512x1, .f32⟩
  | .hbm, ⟨15, _⟩ => ⟨S_, .f32⟩
  | .hbm, ⟨16, _⟩ => ⟨S8x64x512x1, .f32⟩
  | .hbm, ⟨17, _⟩ => ⟨S8x64x512x512, .f32⟩
  | .hbm, ⟨18, _⟩ => ⟨S_, .f32⟩
  | .hbm, ⟨19, _⟩ => ⟨S8x64x512x512, .f32⟩
  | .hbm, ⟨20, _⟩ => ⟨S8x64x512x512, .f32⟩
  | .hbm, ⟨21, _⟩ => ⟨S_, .f32⟩
  | .hbm, ⟨22, _⟩ => ⟨S8x64x512, .f32⟩
  | .hbm, ⟨23, _⟩ => ⟨S8x64x512x1, .f32⟩
  | .hbm, ⟨24, _⟩ => ⟨S8x64x512x1, .f32⟩
  | .hbm, ⟨25, _⟩ => ⟨S8x64x512x1, .f32⟩
  | .hbm, ⟨26, _⟩ => ⟨S8x64x512x1, .f32⟩
  | .hbm, ⟨27, _⟩ => ⟨S8x64x512x512, .f32⟩
  | .hbm, ⟨28, _⟩ => ⟨S8x64x512x512, .f32⟩
  | .hbm, ⟨29, _⟩ => ⟨S8x64x512x512, .f32⟩
  | .hbm, ⟨30, _⟩ => ⟨S8x64x512x1, .f32⟩
  | .hbm, ⟨31, _⟩ => ⟨S_, .f32⟩
  | .hbm, ⟨32, _⟩ => ⟨S8x64x512, .f32⟩
  | .hbm, ⟨33, _⟩ => ⟨S8x64x512x1, .f32⟩
  | .hbm, ⟨34, _⟩ => ⟨S8x64x512x1, .f32⟩
  | .hbm, ⟨35, _⟩ => ⟨S8x512x64x1, .f32⟩
  | .hbm, ⟨36, _⟩ => ⟨S8x512x64x128, .f32⟩
  | .hbm, ⟨37, _⟩ => ⟨S8x512x64x128, .f32⟩
  | .hbm, ⟨38, _⟩ => ⟨S8x64x128x512, .f32⟩
  | .hbm, ⟨39, _⟩ => ⟨S8x512x64x128, .f32⟩
  | .hbm, ⟨40, _⟩ => ⟨S8x512x64x128, .f32⟩
  | .hbm, ⟨41, _⟩ => ⟨S8x512x64x1, .f32⟩
  | .hbm, ⟨42, _⟩ => ⟨S8x512x64x128, .f32⟩
  | .hbm, ⟨43, _⟩ => ⟨S8x512x64x128, .f32⟩
  | .hbm, ⟨44, _⟩ => ⟨S8x512x8192, .f32⟩
  | .hbm, ⟨45, _⟩ => ⟨S8x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Program.lean ====
/- The kernel's text, folded: what one device computes on one block, and the sequence of its accesses,
   signals, waits and transfers as steps with a continuation. `cc0_body` is this sequence. -/
module

public import proofs.«01_k».proof.Proof.Gen.KernelIdeal.Frame

@[expose] public section

set_option maxRecDepth 16384

noncomputable section

namespace Cert.KernelIdeal.Run

open Idealize.ShloMosaic Idealize.ShloMosaic.TcCoe
open Idealize.SL.Sem
open Facts₀ Facts

variable {F : FTy → Type} [FloatOps F]

/-! ## What one device computes on one block -/

/-- One head's attention: the softmax of the scaled products of its queries and keys, over its values. The
    heads' columns of 128 start at `o`. -/
def head (q k v : FVec F S512x1024 .bf16) (o : Fin 2 → Nat) (h : S512x1024.Slices o S512x128) : FVec F S512x128 .f32 :=
  let s := mulf (matmul dot_S512x128_S512x128_S512x512_1_1_0_0_n_n none (extractStridedSlice S512x128 o q h)
    (extractStridedSlice S512x128 o k h) (constant S512x512 .f32 0x00000000#32)) (broadcast S512x512 (Scalar.ofBits .f32 0x3DB504F3#32))
  let top := multiReduction .maximumf [1] S512 s 0xFF800000#32 reduces_S512x512_S512 (.inl rfl) rfl
  let p := exp (subf s (broadcastTo S512x512 (shapeCast S512x1 top shapeCasts_S512_S512x1) broadcasts_S512x1_S512x512))
  let l := multiReduction .add [1] S512 p 0x00000000#32 reduces_S512x512_S512 (.inl rfl) rfl
  divf (matmul dot_S512x512_S512x128_S512x128_1_0_0_1_n_n none (truncf .bf16 p bitsLt_bf16_f32)
      (extractStridedSlice S512x128 o v h) (constant S512x128 .f32 0x00000000#32))
    (broadcastTo S512x128 (shapeCast S512x1 l shapeCasts_S512_S512x1) broadcasts_S512x1_S512x128)

/-- A block's product with one weight matrix. -/
def proj (x : FVec F S512x1024 .bf16) (w : Vec F S1024x1024 .bf16) : FVec F S512x1024 .bf16 :=
  truncf .bf16 (matmul dot_S512x1024_S1024x1024_S512x1024_1_0_0_1_n_n none x
    (shapeCast S1024x1024 w shapeCasts_S1024x1024_S1024x1024) (constant S512x1024 .f32 0x00000000#32)) bitsLt_bf16_f32

/-- The eight heads side by side. -/
def heads (q k v : FVec F S512x1024 .bf16) : FVec F S512x1024 .f32 :=
  concatenate S512x1024 1 [⟨S512x128, head q k v ![0, 0] slices_S512x1024_o0_0_S512x128⟩,
    ⟨S512x128, head q k v ![0, 128] slices_S512x1024_o0_128_S512x128⟩, ⟨S512x128, head q k v ![0, 256] slices_S512x1024_o0_256_S512x128⟩,
    ⟨S512x128, head q k v ![0, 384] slices_S512x1024_o0_384_S512x128⟩, ⟨S512x128, head q k v ![0, 512] slices_S512x1024_o0_512_S512x128⟩,
    ⟨S512x128, head q k v ![0, 640] slices_S512x1024_o0_640_S512x128⟩, ⟨S512x128, head q k v ![0, 768] slices_S512x1024_o0_768_S512x128⟩,
    ⟨S512x128, head q k v ![0, 896] slices_S512x1024_o0_896_S512x128⟩]
    concatenates_S512x128_S512x128_S512x128_S512x128_S512x128_S512x128_S512x128_S512x128_S512x1024_d1

/-- One device's share of the result on the block `x`: its eight heads' attention times its rows of the output
    weights. -/
def part (x : FVec F S512x1024 .bf16) (wq wk wv wo : Vec F S1024x1024 .bf16) : FVec F S512x1024 .f32 :=
  matmul dot_S512x1024_S1024x1024_S512x1024_1_0_0_1_n_n none
    (truncf .bf16 (heads (proj x wq) (proj x wk) (proj x wv)) bitsLt_bf16_f32)
    (shapeCast S1024x1024 wo shapeCasts_S1024x1024_S1024x1024) (constant S512x1024 .f32 0x00000000#32)

/-- The same rounded to bf16, as it travels. -/
def partB (x : FVec F S512x1024 .bf16) (wq wk wv wo : Vec F S1024x1024 .bf16) : FVec F S512x1024 .bf16 :=
  truncf .bf16 (part x wq wk wv wo) bitsLt_bf16_f32

/-- Two travelling partial results added, and rounded to bf16 again. -/
def addB (x y : FVec F S512x1024 .bf16) : FVec F S512x1024 .bf16 :=
  truncf .bf16 (addf (extf .f32 x bitsLt_bf16_f32) (extf .f32 y bitsLt_bf16_f32)) bitsLt_bf16_f32

/-- A travelling partial result added into the f32 total. -/
def accB (t : FVec F S512x1024 .f32) (y : FVec F S512x1024 .bf16) : FVec F S512x1024 .f32 :=
  addf t (extf .f32 y bitsLt_bf16_f32)

/-- A 512×1024 array as a block of one plane, and a one-plane block as an array. -/
abbrev up {e : EltTy} (x : Vec F S512x1024 e) : Vec F S1x512x1024 e := shapeCast S1x512x1024 x shapeCasts_S512x1024_S1x512x1024
abbrev dn {e : EltTy} (x : Vec F S1x512x1024 e) : Vec F S512x1024 e := shapeCast S512x1024 x shapeCasts_S1x512x1024_S512x1024

/-! ## The steps -/

/-- The text of one device. -/
abbrev Pg (F : FTy → Type) [FloatOps F] := Prog (TpuEff nD τ sig (Elt F) Λ₀ .tc) PUnit

/-- A stack of `n` planes of 512×1024. -/
abbrev Stk (n : Nat) : Shape := ⟨3, ![n, 512, 1024]⟩

/-- One plane's place in a stack lies inside it. -/
abbrev InStk (n : Nat) (o : Fin 3 → Nat) : Prop := ∀ a, o a + S1x512x1024.size a ≤ (Stk n).size a

/-- The rectangle of one plane. -/
abbrev planeR (n : Nat) (o : Fin 3 → Nat) (h : InStk n o) : Rect (Stk n) := Rect.unit (s := Stk n) o S1x512x1024.size h

/-- One plane of a stack, as a 512×1024 memref. -/
abbrev plane {n : Nat} (M : Memref sig .tc .vmem (Stk n) .bf16) (o : Fin 3 → Nat) (h : InStk n o) : Memref sig .tc .vmem S512x1024 .bf16 :=
  (M.slice (planeR n o h) (fun _ => rfl)).squeeze S512x1024 squeezes_S1x512x1024_S512x1024

/-- One semaphore of an array of `n`. -/
abbrev semAt {n : Nat} (A : DmaSems sig ⟨1, ![n]⟩) (o : Fin 1 → Nat) (h : ∀ a, o a + S1.size a ≤ (⟨1, ![n]⟩ : Shape).size a) : DmaSem sig :=
  ((A.slice (Rect.unit (s := ⟨1, ![n]⟩) o S1.size h)).squeeze S_ squeezes_S1_S_).sem

def sigStep (d : Dev nD) (k : Pg F) : Pg F := .op (.semSignal (Dev.tc d) barrier0 1) fun _ => k
def barStep (k : Pg F) : Pg F := .op (.semWait barrier0 7) fun _ => k

/-- Send `src` to device `d`'s `dst`. -/
def sendStep (src dst : Memref sig .tc .vmem S512x1024 .bf16) (d : Dev nD) (sS sR : DmaSem sig) (hs : src.view.WordExact)
    (hd : dst.view.WordExact) (k : Pg F) : Pg F :=
  .op (.enqueueDma src (.remote (Dev.tc d) dst (.dma sS)) (.dma sR) hs hd ⟨⟨rfl, Or.inl rfl⟩, trivial⟩) fun _ => k

/-- Wait on a DMA semaphore for one plane. -/
def waitStep (s : DmaSem sig) (src dst : Memref sig .tc .vmem S512x1024 .bf16) (hs : src.view.WordExact) (hd : dst.view.WordExact)
    (k : Pg F) : Pg F :=
  .op (.waitDma2 s src dst hs hd) fun _ => k

/-- Read one plane of a stack. -/
def loadStep {n : Nat} (M : Memref sig .tc .vmem (Stk n) .bf16) (o : Fin 3 → Nat) (h : InStk n o)
    (k : Vec F S512x1024 .bf16 → Pg F) : Pg F :=
  .op (.load M (planeR n o h).toLoadRect (View.loadsAt_vmem h_S1x512x1024)) fun x => k (dn x)

/-- Write one plane of a stack (it is read first, to no effect). -/
def storeStep {n : Nat} (M : Memref sig .tc .vmem (Stk n) .bf16) (o : Fin 3 → Nat) (h : InStk n o) (v : Vec F S512x1024 .bf16)
    (hx : (M.access (planeR n o h)).Stores Finset.univ) (k : Pg F) : Pg F :=
  .op (.load M (planeR n o h).toLoadRect (View.loadsAt_vmem h_S1x512x1024)) fun _ =>
  .op (.store M (planeR n o h) (up v) Finset.univ hx (.inl rfl)) fun _ => k

/-- The place of the one plane of the result block. -/
abbrev outR : Rect S1x512x1024 := Rect.unit (s := S1x512x1024) ![0, 0, 0] S1x512x1024.size inb_S1x512x1024_S1x512x1024_0_0_0

/-- Read the result block. -/
def loadOut (a3 : Memref sig .tc .vmem S1x512x1024 .f32) (k : Vec F S512x1024 .f32 → Pg F) : Pg F :=
  .op (.load a3 outR.toLoadRect (View.loadsAt_vmem h_S1x512x1024)) fun x => k (dn x)

/-- Write the result block (it is read first, to no effect). -/
def storeOut (a3 : Memref sig .tc .vmem S1x512x1024 .f32) (v : FVec F S512x1024 .f32) (k : Pg F) : Pg F :=
  .op (.load a3 outR.toLoadRect (View.loadsAt_vmem h_S1x512x1024)) fun _ =>
  .op (.store a3 outR (up v) Finset.univ (View.stores_vmem_bits_univ h_S1x512x1024 rfl) (.inl rfl)) fun _ => k

/-- Read a plane of the received blocks and the weights, and go on with this device's share of the result. -/
def partStep (a1 : Memref sig .tc .vmem S1024x3072 .bf16) (a2 : Memref sig .tc .vmem S1024x1024 .bf16)
    (a4 : Memref sig .tc .vmem S8x512x1024 .bf16) (o : Fin 3 → Nat) (h : InStk 8 o) (k : FVec F S512x1024 .f32 → Pg F) : Pg F :=
  .op (.load a4 (planeR 8 o h).toLoadRect (View.loadsAt_vmem h_S1x512x1024)) fun x =>
  .op (.load a1 (Rect.unit (s := S1024x3072) ![0, 0] S1024x1024.size inb_S1024x3072_S1024x1024_0_0).toLoadRect (View.loadsAt_vmem h_S1024x1024)) fun wq =>
  .op (.load a1 (Rect.unit (s := S1024x3072) ![0, 1024] S1024x1024.size inb_S1024x3072_S1024x1024_0_1024).toLoadRect (View.loadsAt_vmem h_S1024x1024)) fun wk =>
  .op (.load a1 (Rect.unit (s := S1024x3072) ![0, 2048] S1024x1024.size inb_S1024x3072_S1024x1024_0_2048).toLoadRect (View.loadsAt_vmem h_S1024x1024)) fun wv =>
  .op (.load a2 (Rect.unit (s := S1024x1024) ![0, 0] S1024x1024.size inb_S1024x1024_S1024x1024_0_0).toLoadRect (View.loadsAt_vmem h_S1024x1024)) fun wo =>
  k (part (dn (e := .bf16) x) wq wk wv wo)

/-- A plane received into `a5` is added to, with a plane of `a7`. -/
def addStep (a5 : Memref sig .tc .vmem S7x512x1024 .bf16) (a7 : Memref sig .tc .vmem S4x512x1024 .bf16) (o o' : Fin 3 → Nat)
    (h : InStk 7 o) (h' : InStk 4 o') (hx : (a5.access (planeR 7 o h)).Stores Finset.univ) (k : Pg F) : Pg F :=
  loadStep a5 o h fun x => loadStep a7 o' h' fun y => storeStep a5 o h (addB x y) hx k

/-- A plane received into `a5` is added into the result block. -/
def accStep (a3 : Memref sig .tc .vmem S1x512x1024 .f32) (a5 : Memref sig .tc .vmem S7x512x1024 .bf16) (o : Fin 3 → Nat)
    (h : InStk 7 o) (k : Pg F) : Pg F :=
  loadOut a3 fun t => loadStep a5 o h fun y => storeOut a3 (accB t y) k

/-! ## The whole text -/

section Text
variable (c : Dev nD) (a0 : Memref sig .tc .vmem S512x1024 .bf16) (a1 : Memref sig .tc .vmem S1024x3072 .bf16)
  (a2 : Memref sig .tc .vmem S1024x1024 .bf16) (a3 : Memref sig .tc .vmem S1x512x1024 .f32)
  (a4 : Memref sig .tc .vmem S8x512x1024 .bf16) (h4 : a4.IsWhole) (a5 : Memref sig .tc .vmem S7x512x1024 .bf16) (h5 : a5.IsWhole)
  (a6 : Memref sig .tc .vmem S3x512x1024 .bf16) (h6 : a6.IsWhole) (a7 : Memref sig .tc .vmem S4x512x1024 .bf16) (h7 : a7.IsWhole)
  (s8 s9 s10 : DmaSems sig S8) (s11 : DmaSems sig S7)

/-- The seven signals to the other devices and the wait for theirs. -/
def barrierText (k : Pg F) : Pg F :=
  sigStep ⟨k0_dev1 c, k0_dev1_lt c⟩ <| sigStep ⟨k0_dev2 c, k0_dev2_lt c⟩ <| sigStep ⟨k0_dev3 c, k0_dev3_lt c⟩ <|
  sigStep ⟨k0_dev4 c, k0_dev4_lt c⟩ <| sigStep ⟨k0_dev5 c, k0_dev5_lt c⟩ <| sigStep ⟨k0_dev6 c, k0_dev6_lt c⟩ <|
  sigStep ⟨k0_dev7 c, k0_dev7_lt c⟩ <| barStep k

/-- Send the received plane at `o` on to device `d`, on send semaphore `j`, to the same plane there. -/
abbrev forward (o : Fin 3 → Nat) (h : InStk 8 o) (d : Dev nD) (j : Fin 1 → Nat) (hj : ∀ a, j a + S1.size a ≤ S8.size a)
    (i : Fin 1 → Nat) (hi : ∀ a, i a + S1.size a ≤ S8.size a) (hw : (plane a4 o h).view.WordExact) (k : Pg F) : Pg F :=
  sendStep (plane a4 o h) (plane a4 o h) d (semAt s8 j hj) (semAt s9 i hi) hw hw k

/-- Wait for the plane at `o` to arrive. -/
abbrev arrive (o : Fin 3 → Nat) (h : InStk 8 o) (i : Fin 1 → Nat) (hi : ∀ a, i a + S1.size a ≤ S8.size a)
    (hw : (plane a4 o h).view.WordExact) (k : Pg F) : Pg F :=
  waitStep (semAt s9 i hi) (plane a4 o h) (plane a4 o h) hw hw k

/-- This device's own block stored and sent to three devices, and its own share of the result on it. -/
def ownText (k : Pg F) : Pg F :=
  .op (.load a0 (Rect.unit (s := S512x1024) ![0, 0] S512x1024.size inb_S512x1024_S512x1024_0_0).toLoadRect (View.loadsAt_vmem h_S512x1024)) fun x =>
  storeStep a4 (k0_off1 c) (k0_off1_inb c) (shapeCast S512x1024 x shapeCasts_S512x1024_S512x1024)
    (View.stores_vmem h_S1x512x1024 (h4.storeExact_slice rfl _ (k0_off1_packedbf16 c)) (fun _ => rfl)) <|
  forward a4 s8 s9 (k0_off3 c) (k0_off3_inb c) ⟨k0_dev8 c, k0_dev8_lt c⟩ ![1] inb_S8_S1_1 (k0_off2 c) (k0_off2_inb c) ((h4.wordExact_slice rfl _ (k0_off3_wordsbf16 c)).reshape _ _) <|
  forward a4 s8 s9 (k0_off3 c) (k0_off3_inb c) ⟨k0_dev9 c, k0_dev9_lt c⟩ ![2] inb_S8_S1_2 (k0_off2 c) (k0_off2_inb c) ((h4.wordExact_slice rfl _ (k0_off3_wordsbf16 c)).reshape _ _) <|
  forward a4 s8 s9 (k0_off3 c) (k0_off3_inb c) ⟨k0_dev10 c, k0_dev10_lt c⟩ ![3] inb_S8_S1_3 (k0_off2 c) (k0_off2_inb c) ((h4.wordExact_slice rfl _ (k0_off3_wordsbf16 c)).reshape _ _) <|
  partStep a1 a2 a4 (k0_off1 c) (k0_off1_inb c) fun v => storeOut a3 v k

/-- The block of the device at distance `w` arrives and is forwarded. -/
def passOn (w : BitVec 32) (r : Fin 7) (hr : w = BitVec.ofNat 32 (1 + r.val)) (d : Dev nD) (j : Fin 1 → Nat)
    (hj : ∀ a, j a + S1.size a ≤ S8.size a) (k : Pg F) : Pg F :=
  arrive a4 s9 (k0_off5 c w) (hr ▸ k0_off5_inb c r) (k0_off4 c w) (hr ▸ k0_off4_inb c r)
    ((h4.wordExact_slice rfl _ (by subst hr; exact k0_off5_wordsbf16 c r)).reshape _ _) <|
  forward a4 s8 s9 (k0_off5 c w) (hr ▸ k0_off5_inb c r) d j hj (k0_off4 c w) (hr ▸ k0_off4_inb c r)
    ((h4.wordExact_slice rfl _ (by subst hr; exact k0_off5_wordsbf16 c r)).reshape _ _) k

/-- This device's share of the result on the block of the device at distance `w`, rounded and put into a plane. -/
def stash {n : Nat} (M : Memref sig .tc .vmem (Stk n) .bf16) (o : Fin 3 → Nat) (h : InStk n o)
    (hx : (M.access (planeR n o h)).Stores Finset.univ) (w : BitVec 32) (r : Fin 7) (hr : w = BitVec.ofNat 32 (1 + r.val))
    (k : Pg F) : Pg F :=
  partStep a1 a2 a4 (k0_off6 c w) (hr ▸ k0_off6_inb c r) fun v => storeStep M o h (truncf .bf16 v bitsLt_bf16_f32) hx k

/-- Send a plane of `M` to plane `o'` of device `d`'s `a5`. -/
def give {n : Nat} (M : Memref sig .tc .vmem (Stk n) .bf16) (o : Fin 3 → Nat) (h : InStk n o) (hw : (plane M o h).view.WordExact)
    (o' : Fin 3 → Nat) (h' : InStk 7 o') (hw' : (plane a5 o' h').view.WordExact) (d : Dev nD)
    (j : Fin 1 → Nat) (hj : ∀ a, j a + S1.size a ≤ S8.size a) (i : Fin 1 → Nat) (hi : ∀ a, i a + S1.size a ≤ S7.size a) (k : Pg F) : Pg F :=
  sendStep (plane M o h) (plane a5 o' h') d (semAt s10 j hj) (semAt s11 i hi) hw hw' k

/-- Wait for plane `o` of `a5` to arrive. -/
def take (o : Fin 3 → Nat) (h : InStk 7 o) (hw : (plane a5 o h).view.WordExact) (i : Fin 1 → Nat)
    (hi : ∀ a, i a + S1.size a ≤ S7.size a) (k : Pg F) : Pg F :=
  waitStep (semAt s11 i hi) (plane a5 o h) (plane a5 o h) hw hw k

/-- The seven blocks of the others, in the order they arrive. -/
def hopsText (k : Pg F) : Pg F :=
  passOn c a4 h4 s8 s9 1#32 0 rfl ⟨k0_dev11 c, k0_dev11_lt c⟩ ![4] inb_S8_S1_4 <|
  stash c a1 a2 a4 a7 ![0, 0, 0] inb_S4x512x1024_S1x512x1024_0_0_0 (View.stores_vmem h_S1x512x1024 (h7.storeExact_slice rfl _ packedbf16_S4x512x1024_S1x512x1024_0_0_0) (fun _ => rfl)) 1#32 0 rfl <|
  passOn c a4 h4 s8 s9 3#32 2 rfl ⟨k0_dev12 c, k0_dev12_lt c⟩ ![5] inb_S8_S1_5 <|
  stash c a1 a2 a4 a7 ![1, 0, 0] inb_S4x512x1024_S1x512x1024_1_0_0 (View.stores_vmem h_S1x512x1024 (h7.storeExact_slice rfl _ packedbf16_S4x512x1024_S1x512x1024_1_0_0) (fun _ => rfl)) 3#32 2 rfl <|
  passOn c a4 h4 s8 s9 4#32 3 rfl ⟨k0_dev13 c, k0_dev13_lt c⟩ ![6] inb_S8_S1_6 <|
  stash c a1 a2 a4 a7 ![2, 0, 0] inb_S4x512x1024_S1x512x1024_2_0_0 (View.stores_vmem h_S1x512x1024 (h7.storeExact_slice rfl _ packedbf16_S4x512x1024_S1x512x1024_2_0_0) (fun _ => rfl)) 4#32 3 rfl <|
  passOn c a4 h4 s8 s9 7#32 6 rfl ⟨k0_dev14 c, k0_dev14_lt c⟩ ![7] inb_S8_S1_7 <|
  stash c a1 a2 a4 a7 ![3, 0, 0] inb_S4x512x1024_S1x512x1024_3_0_0 (View.stores_vmem h_S1x512x1024 (h7.storeExact_slice rfl _ packedbf16_S4x512x1024_S1x512x1024_3_0_0) (fun _ => rfl)) 7#32 6 rfl <|
  give a5 s10 s11 a7 ![3, 0, 0] inb_S4x512x1024_S1x512x1024_3_0_0 ((h7.wordExact_slice rfl _ wordsbf16_S4x512x1024_S1x512x1024_3_0_0).reshape _ _) ![6, 0, 0] inb_S7x512x1024_S1x512x1024_6_0_0 ((h5.wordExact_slice rfl _ wordsbf16_S7x512x1024_S1x512x1024_6_0_0).reshape _ _) ⟨k0_dev15 c, k0_dev15_lt c⟩ ![7] inb_S8_S1_7 ![6] inb_S7_S1_6 <|
  arrive a4 s9 (k0_off5 c 2#32) (k0_off5_inb c 1) (k0_off4 c 2#32) (k0_off4_inb c 1) ((h4.wordExact_slice rfl _ (k0_off5_wordsbf16 c 1)).reshape _ _) <|
  stash c a1 a2 a4 a6 ![0, 0, 0] inb_S3x512x1024_S1x512x1024_0_0_0 (View.stores_vmem h_S1x512x1024 (h6.storeExact_slice rfl _ packedbf16_S3x512x1024_S1x512x1024_0_0_0) (fun _ => rfl)) 2#32 1 rfl <|
  give a5 s10 s11 a6 ![0, 0, 0] inb_S3x512x1024_S1x512x1024_0_0_0 ((h6.wordExact_slice rfl _ wordsbf16_S3x512x1024_S1x512x1024_0_0_0).reshape _ _) ![5, 0, 0] inb_S7x512x1024_S1x512x1024_5_0_0 ((h5.wordExact_slice rfl _ wordsbf16_S7x512x1024_S1x512x1024_5_0_0).reshape _ _) ⟨k0_dev16 c, k0_dev16_lt c⟩ ![2] inb_S8_S1_2 ![5] inb_S7_S1_5 <|
  arrive a4 s9 (k0_off5 c 5#32) (k0_off5_inb c 4) (k0_off4 c 5#32) (k0_off4_inb c 4) ((h4.wordExact_slice rfl _ (k0_off5_wordsbf16 c 4)).reshape _ _) <|
  stash c a1 a2 a4 a6 ![1, 0, 0] inb_S3x512x1024_S1x512x1024_1_0_0 (View.stores_vmem h_S1x512x1024 (h6.storeExact_slice rfl _ packedbf16_S3x512x1024_S1x512x1024_1_0_0) (fun _ => rfl)) 5#32 4 rfl <|
  give a5 s10 s11 a6 ![1, 0, 0] inb_S3x512x1024_S1x512x1024_1_0_0 ((h6.wordExact_slice rfl _ wordsbf16_S3x512x1024_S1x512x1024_1_0_0).reshape _ _) ![4, 0, 0] inb_S7x512x1024_S1x512x1024_4_0_0 ((h5.wordExact_slice rfl _ wordsbf16_S7x512x1024_S1x512x1024_4_0_0).reshape _ _) ⟨k0_dev17 c, k0_dev17_lt c⟩ ![5] inb_S8_S1_5 ![4] inb_S7_S1_4 <|
  arrive a4 s9 (k0_off5 c 6#32) (k0_off5_inb c 5) (k0_off4 c 6#32) (k0_off4_inb c 5) ((h4.wordExact_slice rfl _ (k0_off5_wordsbf16 c 5)).reshape _ _) <|
  stash c a1 a2 a4 a6 ![2, 0, 0] inb_S3x512x1024_S1x512x1024_2_0_0 (View.stores_vmem h_S1x512x1024 (h6.storeExact_slice rfl _ packedbf16_S3x512x1024_S1x512x1024_2_0_0) (fun _ => rfl)) 6#32 5 rfl <|
  give a5 s10 s11 a6 ![2, 0, 0] inb_S3x512x1024_S1x512x1024_2_0_0 ((h6.wordExact_slice rfl _ wordsbf16_S3x512x1024_S1x512x1024_2_0_0).reshape _ _) ![3, 0, 0] inb_S7x512x1024_S1x512x1024_3_0_0 ((h5.wordExact_slice rfl _ wordsbf16_S7x512x1024_S1x512x1024_3_0_0).reshape _ _) ⟨k0_dev18 c, k0_dev18_lt c⟩ ![6] inb_S8_S1_6 ![3] inb_S7_S1_3 k

/-- The three pairwise sums, each passed on. -/
def sumsText (k : Pg F) : Pg F :=
  take a5 s11 ![6, 0, 0] inb_S7x512x1024_S1x512x1024_6_0_0 ((h5.wordExact_slice rfl _ wordsbf16_S7x512x1024_S1x512x1024_6_0_0).reshape _ _) ![6] inb_S7_S1_6 <|
  addStep a5 a7 ![6, 0, 0] ![1, 0, 0] inb_S7x512x1024_S1x512x1024_6_0_0 inb_S4x512x1024_S1x512x1024_1_0_0 (View.stores_vmem h_S1x512x1024 (h5.storeExact_slice rfl _ packedbf16_S7x512x1024_S1x512x1024_6_0_0) (fun _ => rfl)) <|
  give a5 s10 s11 a5 ![6, 0, 0] inb_S7x512x1024_S1x512x1024_6_0_0 ((h5.wordExact_slice rfl _ wordsbf16_S7x512x1024_S1x512x1024_6_0_0).reshape _ _) ![1, 0, 0] inb_S7x512x1024_S1x512x1024_1_0_0 ((h5.wordExact_slice rfl _ wordsbf16_S7x512x1024_S1x512x1024_1_0_0).reshape _ _) ⟨k0_dev19 c, k0_dev19_lt c⟩ ![3] inb_S8_S1_3 ![1] inb_S7_S1_1 <|
  take a5 s11 ![5, 0, 0] inb_S7x512x1024_S1x512x1024_5_0_0 ((h5.wordExact_slice rfl _ wordsbf16_S7x512x1024_S1x512x1024_5_0_0).reshape _ _) ![5] inb_S7_S1_5 <|
  addStep a5 a7 ![5, 0, 0] ![0, 0, 0] inb_S7x512x1024_S1x512x1024_5_0_0 inb_S4x512x1024_S1x512x1024_0_0_0 (View.stores_vmem h_S1x512x1024 (h5.storeExact_slice rfl _ packedbf16_S7x512x1024_S1x512x1024_5_0_0) (fun _ => rfl)) <|
  give a5 s10 s11 a5 ![5, 0, 0] inb_S7x512x1024_S1x512x1024_5_0_0 ((h5.wordExact_slice rfl _ wordsbf16_S7x512x1024_S1x512x1024_5_0_0).reshape _ _) ![0, 0, 0] inb_S7x512x1024_S1x512x1024_0_0_0 ((h5.wordExact_slice rfl _ wordsbf16_S7x512x1024_S1x512x1024_0_0_0).reshape _ _) ⟨k0_dev20 c, k0_dev20_lt c⟩ ![1] inb_S8_S1_1 ![0] inb_S7_S1_0 <|
  take a5 s11 ![4, 0, 0] inb_S7x512x1024_S1x512x1024_4_0_0 ((h5.wordExact_slice rfl _ wordsbf16_S7x512x1024_S1x512x1024_4_0_0).reshape _ _) ![4] inb_S7_S1_4 <|
  addStep a5 a7 ![4, 0, 0] ![2, 0, 0] inb_S7x512x1024_S1x512x1024_4_0_0 inb_S4x512x1024_S1x512x1024_2_0_0 (View.stores_vmem h_S1x512x1024 (h5.storeExact_slice rfl _ packedbf16_S7x512x1024_S1x512x1024_4_0_0) (fun _ => rfl)) <|
  give a5 s10 s11 a5 ![4, 0, 0] inb_S7x512x1024_S1x512x1024_4_0_0 ((h5.wordExact_slice rfl _ wordsbf16_S7x512x1024_S1x512x1024_4_0_0).reshape _ _) ![2, 0, 0] inb_S7x512x1024_S1x512x1024_2_0_0 ((h5.wordExact_slice rfl _ wordsbf16_S7x512x1024_S1x512x1024_2_0_0).reshape _ _) ⟨k0_dev21 c, k0_dev21_lt c⟩ ![4] inb_S8_S1_4 ![2] inb_S7_S1_2 k

/-- The four arrivals added into the result. -/
def totalText (k : Pg F) : Pg F :=
  take a5 s11 ![1, 0, 0] inb_S7x512x1024_S1x512x1024_1_0_0 ((h5.wordExact_slice rfl _ wordsbf16_S7x512x1024_S1x512x1024_1_0_0).reshape _ _) ![1] inb_S7_S1_1 <|
  accStep a3 a5 ![1, 0, 0] inb_S7x512x1024_S1x512x1024_1_0_0 <|
  take a5 s11 ![0, 0, 0] inb_S7x512x1024_S1x512x1024_0_0_0 ((h5.wordExact_slice rfl _ wordsbf16_S7x512x1024_S1x512x1024_0_0_0).reshape _ _) ![0] inb_S7_S1_0 <|
  accStep a3 a5 ![0, 0, 0] inb_S7x512x1024_S1x512x1024_0_0_0 <|
  take a5 s11 ![3, 0, 0] inb_S7x512x1024_S1x512x1024_3_0_0 ((h5.wordExact_slice rfl _ wordsbf16_S7x512x1024_S1x512x1024_3_0_0).reshape _ _) ![3] inb_S7_S1_3 <|
  accStep a3 a5 ![3, 0, 0] inb_S7x512x1024_S1x512x1024_3_0_0 <|
  take a5 s11 ![2, 0, 0] inb_S7x512x1024_S1x512x1024_2_0_0 ((h5.wordExact_slice rfl _ wordsbf16_S7x512x1024_S1x512x1024_2_0_0).reshape _ _) ![2] inb_S7_S1_2 <|
  accStep a3 a5 ![2, 0, 0] inb_S7x512x1024_S1x512x1024_2_0_0 k

/-- The waits for this device's own transfers. -/
def drainText (k : Pg F) : Pg F :=
  waitStep (semAt s8 ![1] inb_S8_S1_1) (plane a4 (k0_off3 c) (k0_off3_inb c)) (plane a4 (k0_off3 c) (k0_off3_inb c)) ((h4.wordExact_slice rfl _ (k0_off3_wordsbf16 c)).reshape _ _) ((h4.wordExact_slice rfl _ (k0_off3_wordsbf16 c)).reshape _ _) <|
  waitStep (semAt s8 ![2] inb_S8_S1_2) (plane a4 (k0_off3 c) (k0_off3_inb c)) (plane a4 (k0_off3 c) (k0_off3_inb c)) ((h4.wordExact_slice rfl _ (k0_off3_wordsbf16 c)).reshape _ _) ((h4.wordExact_slice rfl _ (k0_off3_wordsbf16 c)).reshape _ _) <|
  waitStep (semAt s8 ![3] inb_S8_S1_3) (plane a4 (k0_off3 c) (k0_off3_inb c)) (plane a4 (k0_off3 c) (k0_off3_inb c)) ((h4.wordExact_slice rfl _ (k0_off3_wordsbf16 c)).reshape _ _) ((h4.wordExact_slice rfl _ (k0_off3_wordsbf16 c)).reshape _ _) <|
  waitStep (semAt s8 ![4] inb_S8_S1_4) (plane a4 (k0_off5 c 1#32) (k0_off5_inb c 0)) (plane a4 (k0_off5 c 1#32) (k0_off5_inb c 0)) ((h4.wordExact_slice rfl _ (k0_off5_wordsbf16 c 0)).reshape _ _) ((h4.wordExact_slice rfl _ (k0_off5_wordsbf16 c 0)).reshape _ _) <|
  waitStep (semAt s8 ![5] inb_S8_S1_5) (plane a4 (k0_off5 c 3#32) (k0_off5_inb c 2)) (plane a4 (k0_off5 c 3#32) (k0_off5_inb c 2)) ((h4.wordExact_slice rfl _ (k0_off5_wordsbf16 c 2)).reshape _ _) ((h4.wordExact_slice rfl _ (k0_off5_wordsbf16 c 2)).reshape _ _) <|
  waitStep (semAt s8 ![6] inb_S8_S1_6) (plane a4 (k0_off5 c 4#32) (k0_off5_inb c 3)) (plane a4 (k0_off5 c 4#32) (k0_off5_inb c 3)) ((h4.wordExact_slice rfl _ (k0_off5_wordsbf16 c 3)).reshape _ _) ((h4.wordExact_slice rfl _ (k0_off5_wordsbf16 c 3)).reshape _ _) <|
  waitStep (semAt s8 ![7] inb_S8_S1_7) (plane a4 (k0_off5 c 7#32) (k0_off5_inb c 6)) (plane a4 (k0_off5 c 7#32) (k0_off5_inb c 6)) ((h4.wordExact_slice rfl _ (k0_off5_wordsbf16 c 6)).reshape _ _) ((h4.wordExact_slice rfl _ (k0_off5_wordsbf16 c 6)).reshape _ _) <|
  waitStep (semAt s10 ![7] inb_S8_S1_7) (plane a5 ![6, 0, 0] inb_S7x512x1024_S1x512x1024_6_0_0) (plane a7 ![3, 0, 0] inb_S4x512x1024_S1x512x1024_3_0_0) ((h5.wordExact_slice rfl _ wordsbf16_S7x512x1024_S1x512x1024_6_0_0).reshape _ _) ((h7.wordExact_slice rfl _ wordsbf16_S4x512x1024_S1x512x1024_3_0_0).reshape _ _) <|
  waitStep (semAt s10 ![2] inb_S8_S1_2) (plane a5 ![5, 0, 0] inb_S7x512x1024_S1x512x1024_5_0_0) (plane a6 ![0, 0, 0] inb_S3x512x1024_S1x512x1024_0_0_0) ((h5.wordExact_slice rfl _ wordsbf16_S7x512x1024_S1x512x1024_5_0_0).reshape _ _) ((h6.wordExact_slice rfl _ wordsbf16_S3x512x1024_S1x512x1024_0_0_0).reshape _ _) <|
  waitStep (semAt s10 ![5] inb_S8_S1_5) (plane a5 ![4, 0, 0] inb_S7x512x1024_S1x512x1024_4_0_0) (plane a6 ![1, 0, 0] inb_S3x512x1024_S1x512x1024_1_0_0) ((h5.wordExact_slice rfl _ wordsbf16_S7x512x1024_S1x512x1024_4_0_0).reshape _ _) ((h6.wordExact_slice rfl _ wordsbf16_S3x512x1024_S1x512x1024_1_0_0).reshape _ _) <|
  waitStep (semAt s10 ![6] inb_S8_S1_6) (plane a5 ![3, 0, 0] inb_S7x512x1024_S1x512x1024_3_0_0) (plane a6 ![2, 0, 0] inb_S3x512x1024_S1x512x1024_2_0_0) ((h5.wordExact_slice rfl _ wordsbf16_S7x512x1024_S1x512x1024_3_0_0).reshape _ _) ((h6.wordExact_slice rfl _ wordsbf16_S3x512x1024_S1x512x1024_2_0_0).reshape _ _) <|
  waitStep (semAt s10 ![3] inb_S8_S1_3) (plane a5 ![1, 0, 0] inb_S7x512x1024_S1x512x1024_1_0_0) (plane a5 ![6, 0, 0] inb_S7x512x1024_S1x512x1024_6_0_0) ((h5.wordExact_slice rfl _ wordsbf16_S7x512x1024_S1x512x1024_1_0_0).reshape _ _) ((h5.wordExact_slice rfl _ wordsbf16_S7x512x1024_S1x512x1024_6_0_0).reshape _ _) <|
  waitStep (semAt s10 ![1] inb_S8_S1_1) (plane a5 ![0, 0, 0] inb_S7x512x1024_S1x512x1024_0_0_0) (plane a5 ![5, 0, 0] inb_S7x512x1024_S1x512x1024_5_0_0) ((h5.wordExact_slice rfl _ wordsbf16_S7x512x1024_S1x512x1024_0_0_0).reshape _ _) ((h5.wordExact_slice rfl _ wordsbf16_S7x512x1024_S1x512x1024_5_0_0).reshape _ _) <|
  waitStep (semAt s10 ![4] inb_S8_S1_4) (plane a5 ![2, 0, 0] inb_S7x512x1024_S1x512x1024_2_0_0) (plane a5 ![4, 0, 0] inb_S7x512x1024_S1x512x1024_4_0_0) ((h5.wordExact_slice rfl _ wordsbf16_S7x512x1024_S1x512x1024_2_0_0).reshape _ _) ((h5.wordExact_slice rfl _ wordsbf16_S7x512x1024_S1x512x1024_4_0_0).reshape _ _) k

/-- The text of device `c`. -/
def text : Pg F :=
  barrierText c <| ownText c a0 a1 a2 a3 a4 h4 s8 s9 <| hopsText c a1 a2 a4 h4 a5 h5 a6 h6 a7 h7 s8 s9 s10 s11 <|
  sumsText c a5 h5 a7 s10 s11 <| totalText a3 a5 h5 s11 <| drainText c a4 h4 a5 h5 a6 h6 a7 h7 s8 s10 (.ret ⟨⟩)

end Text

/-- The kernel's body is the text above, at the device it runs on. -/
theorem body_eq (a0 : Memref sig .tc .vmem S512x1024 .bf16) (h0 : a0.IsWhole) (a1 : Memref sig .tc .vmem S1024x3072 .bf16) (h1 : a1.IsWhole)
    (a2 : Memref sig .tc .vmem S1024x1024 .bf16) (h2 : a2.IsWhole) (a3 : Memref sig .tc .vmem S1x512x1024 .f32) (h3 : a3.IsWhole)
    (a4 : Memref sig .tc .vmem S8x512x1024 .bf16) (h4 : a4.IsWhole) (a5 : Memref sig .tc .vmem S7x512x1024 .bf16) (h5 : a5.IsWhole)
    (a6 : Memref sig .tc .vmem S3x512x1024 .bf16) (h6 : a6.IsWhole) (a7 : Memref sig .tc .vmem S4x512x1024 .bf16) (h7 : a7.IsWhole)
    (s8 s9 s10 : DmaSems sig S8) (s11 : DmaSems sig S7) :
    (cc0_body a0 h0 a1 h1 a2 h2 a3 h3 a4 h4 a5 h5 a6 h6 a7 h7 s8 s9 s10 s11 : Pg F)
      = .op .deviceId fun c => text c a0 a1 a2 a3 a4 h4 a5 h5 a6 h6 a7 h7 s8 s9 s10 s11 := by
  chain_rfl

end Cert.KernelIdeal.Run

end
-- ==== Proof.Protocol.lean ====
/- The agreement between the eight devices: who raises which semaphore, by how much, and what each raise hands
   over. Devices are named by distance: `dx c k` is the device whose number differs from `c`'s by the mask `k`. -/
module

public import proofs.«01_k».proof.Proof.Program
public import Idealize.ShloMosaic.Lib.Rounds
public import Idealize.ShloMosaic.Lib.MemrefSat
public import Idealize.ShloMosaic.Lib.Pipeline.RegionTalk
public import Idealize.ShloMosaic.Lib.SparseCore.ProtocolKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

/-! ## Devices by distance -/

/-- The device whose number differs from `c`'s by the mask `k`. -/
def dx (c : Dev nD) (k : ℕ) : Dev nD := Fin.ofNat 8 (c.val ^^^ k)
/-- The device `k` places after `c`, cyclically. -/
def rot (c : Dev nD) (k : ℕ) : Dev nD := Fin.ofNat 8 (c.val + k)
/-- The mask between two devices. -/
def mask (s d : Dev nD) : ℕ := s.val ^^^ d.val

theorem dx_0 (c : Dev nD) : dx c 0 = c := by revert c; decide +kernel

/-! ## Where things are -/

abbrev M4 : Memref sig .tc .vmem S8x512x1024 .bf16 := Memref.whole cc0_scratch0
abbrev M5 : Memref sig .tc .vmem S7x512x1024 .bf16 := Memref.whole cc0_scratch1
abbrev M6 : Memref sig .tc .vmem S3x512x1024 .bf16 := Memref.whole cc0_scratch2
abbrev M7 : Memref sig .tc .vmem S4x512x1024 .bf16 := Memref.whole cc0_scratch3

/-- The `i`-th plane of a stack lies inside it. -/
theorem inStk {n : Nat} (i : Fin n) : InStk n ![i.val, 0, 0] := fun a => by
  have := i.isLt
  match a with
  | ⟨0, _⟩ => show i.val + 1 ≤ n; omega
  | ⟨1, _⟩ => exact Nat.le_refl _
  | ⟨2, _⟩ => exact Nat.le_refl _
  | ⟨k + 3, h⟩ => exact absurd h (Nat.not_lt.2 (Nat.le_add_left _ _))

abbrev nth {n : Nat} (M : Memref sig .tc .vmem (Stk n) .bf16) (i : Fin n) : Memref sig .tc .vmem S512x1024 .bf16 :=
  plane M ![i.val, 0, 0] (inStk i)

/-- The `i`-th of the kernel's own DMA semaphores. -/
abbrev dm (i : Fin 31) : DmaSem sig := ⟨4 + i.val, by have := i.isLt; show 4 + i.val < 35; omega⟩
/-- Sent a block (k-th transfer); received the block of `g`; sent a partial result; received partial result `j`. -/
abbrev xs (k : Fin 8) : Fin 31 := ⟨k.val, by omega⟩
abbrev xr (g : Dev nD) : Fin 31 := ⟨8 + g.val, by have : g.val < 8 := g.isLt; omega⟩
abbrev ps (k : Fin 8) : Fin 31 := ⟨16 + k.val, by omega⟩
abbrev pr (j : Fin 7) : Fin 31 := ⟨24 + j.val, by omega⟩

abbrev barCell (c : Dev nD) : GSem nD τ sig := ((c : Thread nD τ), .reg barrier0)
abbrev dc (c : Dev nD) (i : Fin 31) : GSem nD τ sig := ((c : Thread nD τ), .dma (dm i))

/-- The credit of one plane. -/
def N : ℕ := (nth M4 0).view.dmaCredit
theorem N_pos : 0 < N := View.dmaCredit_pos _ (by decide)

/-! ## The resources -/

abbrev UU : Type := UR sig nD τ × URounds (GSem nD τ sig) (Dev nD)
local notation "𝕄" => MT nD τ sig Unit (Elt F) ℕ UU ℕ
abbrev EP : Emb (UR sig nD τ) (MT nD τ sig Unit (Elt F) ℕ UU ℕ) := embL
abbrev ER : Emb (URounds (GSem nD τ sig) (Dev nD)) (MT nD τ sig Unit (Elt F) ℕ UU ℕ) := embR

variable (m : (ℓ : Loc nD τ sig) → Buf (Elt F) ℓ) (ρ : Dev nD → PrngReg)

/-! ## The values -/

abbrev X0 (c : Dev nD) : Vec F S512x1024 .bf16 := Gen.iblk m c 0 Gen.t0_0
abbrev X1 (c : Dev nD) : Vec F S1024x3072 .bf16 := Gen.iblk m c 1 Gen.t0_0
abbrev X2 (c : Dev nD) : Vec F S1024x1024 .bf16 := Gen.iblk m c 2 Gen.t0_0

/-- Device `c`'s block; its three input weights and its output weights, as the kernel reads them. -/
def xb (c : Dev nD) : FVec F S512x1024 .bf16 :=
  shapeCast S512x1024 (fun j => X0 m c ((Rect.unit (s := S512x1024) ![0, 0] S512x1024.size inb_S512x1024_S512x1024_0_0).emb j)) shapeCasts_S512x1024_S512x1024
def wq (c : Dev nD) : Vec F S1024x1024 .bf16 := fun j => X1 m c ((Rect.unit (s := S1024x3072) ![0, 0] S1024x1024.size inb_S1024x3072_S1024x1024_0_0).emb j)
def wk (c : Dev nD) : Vec F S1024x1024 .bf16 := fun j => X1 m c ((Rect.unit (s := S1024x3072) ![0, 1024] S1024x1024.size inb_S1024x3072_S1024x1024_0_1024).emb j)
def wv (c : Dev nD) : Vec F S1024x1024 .bf16 := fun j => X1 m c ((Rect.unit (s := S1024x3072) ![0, 2048] S1024x1024.size inb_S1024x3072_S1024x1024_0_2048).emb j)
def wo (c : Dev nD) : Vec F S1024x1024 .bf16 := fun j => X2 m c ((Rect.unit (s := S1024x1024) ![0, 0] S1024x1024.size inb_S1024x1024_S1024x1024_0_0).emb j)

/-- Device `d`'s share of the result on the block of `g`, in f32 and as it travels. -/
def own (d g : Dev nD) : FVec F S512x1024 .f32 := part (xb m g) (wq m d) (wk m d) (wv m d) (wo m d)
def pt (d g : Dev nD) : FVec F S512x1024 .bf16 := partB (xb m g) (wq m d) (wk m d) (wv m d) (wo m d)

/-- What arrives in plane `j` of device `c`. -/
def landing (c : Dev nD) (j : Fin 7) : FVec F S512x1024 .bf16 :=
  match j with
  | 0 => addB (pt m (dx c 2) c) (pt m (dx c 1) c)
  | 1 => addB (pt m (dx c 7) c) (pt m (dx c 3) c)
  | 2 => addB (pt m (dx c 5) c) (pt m (dx c 4) c)
  | 3 => pt m (dx c 6) c
  | 4 => pt m (dx c 1) (dx c 4)
  | 5 => pt m (dx c 3) (dx c 1)
  | 6 => pt m (dx c 4) (dx c 3)

/-- What device `c` leaves as its result. -/
def result (c : Dev nD) : FVec F S512x1024 .f32 :=
  accB (accB (accB (accB (own m c c) (landing m c 1)) (landing m c 0)) (landing m c 3)) (landing m c 2)

/-! ## What each raise hands over -/

/-- A plane of device `c` at contents not chosen. -/
def free (c : Dev nD) (P : Memref sig .tc .vmem S512x1024 .bf16) : sProp 𝕄 := iprop(∃ v, owns (c : Thread nD τ) P fullShare v)

/-- A plane of device `c`, for another device to write, with its semaphore's first round open. -/
def open4 (c g : Dev nD) : sProp 𝕄 := iprop(free c (nth M4 g) ∗ reached ER (dc c (xr g)) 0)
def open5 (c : Dev nD) (j : Fin 7) : sProp 𝕄 := iprop(free c (nth M5 j) ∗ reached ER (dc c (pr j)) 0)

/-- What device `s` hands the device at mask `k` when it signals it: the planes that device will write. -/
def barPay (s : Dev nD) (k : ℕ) : sProp 𝕄 :=
  match k with
  | 1 => iprop(open4 s (dx s 1) ∗ open4 s (dx s 5) ∗ open4 s (dx s 6) ∗ open5 s 4 ∗ open5 s 0)
  | 3 => iprop(open4 s (dx s 3) ∗ open4 s (dx s 2) ∗ open5 s 5 ∗ open5 s 1)
  | 4 => iprop(open4 s (dx s 4) ∗ open4 s (dx s 7) ∗ open5 s 6 ∗ open5 s 2)
  | 6 => open5 s 3
  | _ => iprop(emp)

/-- What a block's transfer gives its sender back. -/
def xsPay (c : Dev nD) (k : Fin 8) : sProp 𝕄 :=
  match k with
  | 0 => iprop(emp)
  | 1 => owns (c : Thread nD τ) (nth M4 c) fullShare.left.left (xb m c)
  | 2 => owns (c : Thread nD τ) (nth M4 c) fullShare.left.right (xb m c)
  | 3 => owns (c : Thread nD τ) (nth M4 c) fullShare.right.left (xb m c)
  | 4 => owns (c : Thread nD τ) (nth M4 (dx c 1)) fullShare.left (xb m (dx c 1))
  | 5 => owns (c : Thread nD τ) (nth M4 (dx c 3)) fullShare.left (xb m (dx c 3))
  | 6 => owns (c : Thread nD τ) (nth M4 (dx c 4)) fullShare.left (xb m (dx c 4))
  | 7 => owns (c : Thread nD τ) (nth M4 (dx c 7)) fullShare.left (xb m (dx c 7))

/-- What a partial result's transfer gives its sender back. -/
def psPay (c : Dev nD) (k : Fin 8) : sProp 𝕄 :=
  match k with
  | 0 => iprop(emp)
  | 1 => free c (nth M5 5)
  | 2 => free c (nth M6 0)
  | 3 => free c (nth M5 6)
  | 4 => free c (nth M5 4)
  | 5 => free c (nth M6 1)
  | 6 => free c (nth M6 2)
  | 7 => free c (nth M7 3)

/-- What the raise of the `i`-th DMA semaphore of device `c` hands it. -/
def dpay (c : Dev nD) (i : Fin 31) : sProp 𝕄 :=
  if h : i.val < 8 then xsPay m c ⟨i.val, h⟩
  else if h : i.val < 16 then owns (c : Thread nD τ) (nth M4 ⟨i.val - 8, by omega⟩) fullShare (xb m ⟨i.val - 8, by show _ < 8; omega⟩)
  else if h : i.val < 24 then psPay c ⟨i.val - 16, by omega⟩
  else owns (c : Thread nD τ) (nth M5 ⟨i.val - 24, by omega⟩) fullShare (landing m c ⟨i.val - 24, by omega⟩)

theorem dpay_xs (c : Dev nD) (k : Fin 8) : (dpay m c (xs k) : sProp 𝕄) = xsPay m c k := by
  unfold dpay; exact dif_pos k.isLt
theorem dpay_xr (c g : Dev nD) : (dpay m c (xr g) : sProp 𝕄) = owns (c : Thread nD τ) (nth M4 g) fullShare (xb m g) := by
  unfold dpay
  have h8 : g.val < 8 := g.isLt
  rw [dif_neg (by show ¬ 8 + g.val < 8; omega), dif_pos (by show 8 + g.val < 16; omega)]
  have e : (⟨8 + g.val - 8, by show _ < 8; omega⟩ : Dev nD) = g := Fin.ext (by show 8 + g.val - 8 = g.val; omega)
  exact congrArg (fun x : Dev nD => (owns (c : Thread nD τ) (nth M4 x) fullShare (xb m x) : sProp 𝕄)) e
theorem dpay_ps (c : Dev nD) (k : Fin 8) : (dpay m c (ps k) : sProp 𝕄) = psPay c k := by
  unfold dpay
  rw [dif_neg (by show ¬ 16 + k.val < 8; omega), dif_neg (by show ¬ 16 + k.val < 16; omega), dif_pos (by show 16 + k.val < 24; omega)]
  exact congrArg (fun x : Fin 8 => (psPay c x : sProp 𝕄)) (Fin.ext (by show 16 + k.val - 16 = k.val; omega))
theorem dpay_pr (c : Dev nD) (j : Fin 7) : (dpay m c (pr j) : sProp 𝕄) = owns (c : Thread nD τ) (nth M5 j) fullShare (landing m c j) := by
  unfold dpay
  rw [dif_neg (by show ¬ 24 + j.val < 8; omega), dif_neg (by show ¬ 24 + j.val < 16; omega), dif_neg (by show ¬ 24 + j.val < 24; omega)]
  exact congrArg (fun x : Fin 7 => (owns (c : Thread nD τ) (nth M5 x) fullShare (landing m c x) : sProp 𝕄)) (Fin.ext (by show 24 + j.val - 24 = j.val; omega))

instance free_storable (c : Dev nD) (P : Memref sig .tc .vmem S512x1024 .bf16) : BI.Storable (upEmb : UEmb _ 𝕄) (free (F := F) c P) := by
  unfold free; infer_instance
instance barPay_storable (s : Dev nD) (k : ℕ) : BI.Storable (upEmb : UEmb _ 𝕄) (barPay (F := F) s k) := by
  unfold barPay open4 open5; split <;> infer_instance
instance xsPay_storable (c : Dev nD) (k : Fin 8) : BI.Storable (upEmb : UEmb _ 𝕄) (xsPay m c k) := by
  unfold xsPay; split <;> infer_instance
instance psPay_storable (c : Dev nD) (k : Fin 8) : BI.Storable (upEmb : UEmb _ 𝕄) (psPay (F := F) c k) := by
  unfold psPay; split <;> infer_instance
instance dpay_storable (c : Dev nD) (i : Fin 31) : BI.Storable (upEmb : UEmb _ 𝕄) (dpay m c i) := by
  unfold dpay; (repeat' split) <;> infer_instance

/-! ## The schedule -/

/-- The DMA semaphores device `c` uses. -/
def used (c : Dev nD) (n : ℕ) : Bool := n != 0 && n != 16 && n != 8 + c.val

/-- One round: every device's barrier is raised once by each other device, and each DMA semaphore in use once. -/
def rd : Rounds.Schedule (GSem nD τ sig) (Dev nD) 𝕄 where
  duties g r :=
    if r = 0 ∧ g.1.2 = .tc then
      match g.2 with
      | .reg _ => Finset.univ.erase g.1.1
      | .dma s => if 4 ≤ s.val ∧ used g.1.1 (s.val - 4) = true then {0} else ∅
    else ∅
  unitless _ := False
  amount g _ _ := match g.2 with
    | .reg _ => 1
    | .dma _ => N
  payload g _ d := match g.2 with
    | .reg _ => barPay d (mask d g.1.1)
    | .dma s => if h : 4 ≤ s.val then dpay m g.1.1 ⟨s.val - 4, by have : s.val < 35 := s.isLt; omega⟩ else iprop(emp)
  amount_pos g _ _ _ := by
    rcases g with ⟨t, s | s⟩
    · exact Nat.one_pos
    · exact N_pos

instance rd_payload_storable (g : GSem nD τ sig) (r : ℕ) (d : Dev nD) :
    BI.Storable (upEmb : UEmb _ 𝕄) ((rd (F := F) m).payload g r d) := by
  rcases g with ⟨t, s | s⟩
  · show BI.Storable upEmb (barPay d (mask d t.1)); infer_instance
  · show BI.Storable upEmb (if h : 4 ≤ s.val then dpay m t.1 ⟨s.val - 4, _⟩ else iprop(emp))
    split <;> infer_instance

section Sched
variable (c : Dev nD)

theorem duties_bar : (rd (F := F) m).duties (barCell c) 0 = Finset.univ.erase c := by
  show (if (0 : ℕ) = 0 ∧ (Proc.tc : Proc τ) = .tc then Finset.univ.erase c else ∅) = _
  exact if_pos ⟨rfl, rfl⟩
/-- The duties of a DMA semaphore's only round. -/
theorem duties_dm (i : Fin 31) : (rd (F := F) m).duties (dc c i) 0 = if used c i.val = true then {0} else ∅ := by
  show (if (0 : ℕ) = 0 ∧ (Proc.tc : Proc τ) = .tc then (if 4 ≤ 4 + i.val ∧ used c (4 + i.val - 4) = true then ({0} : Finset (Dev nD)) else ∅) else ∅) = _
  rw [if_pos ⟨rfl, rfl⟩, Nat.add_sub_cancel_left]
  by_cases h : used c i.val = true
  · rw [if_pos ⟨by omega, h⟩, if_pos h]
  · rw [if_neg (fun hh => h hh.2), if_neg h]
theorem duties_dma (i : Fin 31) (h : used c i.val = true) : (rd (F := F) m).duties (dc c i) 0 = {0} := by rw [duties_dm, if_pos h]
theorem duties_none (i : Fin 31) (h : used c i.val = false) : (rd (F := F) m).duties (dc c i) 0 = ∅ := by
  rw [duties_dm, if_neg (by rw [h]; decide)]
theorem duties_later (g : GSem nD τ sig) : ∀ r, 1 ≤ r → (rd (F := F) m).duties g r = ∅ :=
  fun r hr => by dsimp only [rd]; rw [if_neg (fun h => by omega)]
theorem duties_never (i : Fin 31) (h : used c i.val = false) : ∀ r, 0 ≤ r → (rd (F := F) m).duties (dc c i) r = ∅ := fun r _ => by
  rcases Nat.eq_zero_or_pos r with rfl | hr
  · exact duties_none m c i h
  · exact duties_later m _ r hr

theorem amount_bar (d : Dev nD) : (rd (F := F) m).amount (barCell c) 0 d = 1 := rfl
theorem amount_dma (i : Fin 31) (d : Dev nD) : (rd (F := F) m).amount (dc c i) 0 d = N := rfl
theorem payload_bar (d : Dev nD) : (rd (F := F) m).payload (barCell c) 0 d = barPay d (mask d c) := rfl
theorem payload_dma (i : Fin 31) (d : Dev nD) : (rd (F := F) m).payload (dc c i) 0 d = dpay m c i := by
  have h : (rd (F := F) m).payload (dc c i) 0 d
      = if h : 4 ≤ 4 + i.val then dpay m c ⟨4 + i.val - 4, by have := i.isLt; omega⟩ else iprop(emp) := rfl
  rw [h, dif_pos (by omega)]
  exact congrArg (fun x : Fin 31 => (dpay m c x : sProp 𝕄)) (Fin.ext (Nat.add_sub_cancel_left ..))

theorem expect_bar : (rd (F := F) m).expect (barCell c) 0 = 7 := by
  unfold Schedule.expect Schedule.amountOf
  rw [duties_bar, Finset.sum_congr rfl fun d _ => amount_bar m c d, Finset.sum_const, Finset.card_erase_of_mem (Finset.mem_univ c)]
  rfl
theorem expect_dma (i : Fin 31) (h : used c i.val = true) : (rd (F := F) m).expect (dc c i) 0 = N := by
  unfold Schedule.expect Schedule.amountOf; rw [duties_dma m c i h, Finset.sum_singleton, amount_dma]

theorem rest_bar : bigSep ((rd (F := F) m).duties (barCell c) 0 \ ∅) (fun d => (rd (F := F) m).payload (barCell c) 0 d)
    = bigSep (Finset.univ.erase c) fun d => barPay d (mask d c) := by
  rw [Finset.sdiff_empty, duties_bar]
  exact bigSep_congr fun d _ => payload_bar m c d
theorem rest_dma (i : Fin 31) (h : used c i.val = true) :
    bigSep ((rd (F := F) m).duties (dc c i) 0 \ ∅) (fun d => (rd (F := F) m).payload (dc c i) 0 d) = dpay m c i := by
  rw [Finset.sdiff_empty, duties_dma m c i h, bigSep_singleton, payload_dma]

end Sched

/-! ## What each device owes, and the levels -/

/-- The raises device `c` makes at other devices, in the order of its text. -/
def debts (c : Dev nD) : List (GSem nD τ sig × ℕ) :=
  [(barCell (rot c 1), 1), (barCell (rot c 2), 1), (barCell (rot c 3), 1), (barCell (rot c 4), 1), (barCell (rot c 5), 1),
   (barCell (rot c 6), 1), (barCell (rot c 7), 1),
   (dc (dx c 1) (xr c), N), (dc (dx c 3) (xr c), N), (dc (dx c 4) (xr c), N),
   (dc (dx c 3) (xr (dx c 1)), N), (dc (dx c 4) (xr (dx c 3)), N), (dc (dx c 1) (xr (dx c 4)), N), (dc (dx c 1) (xr (dx c 7)), N),
   (dc (dx c 4) (pr 6), N), (dc (dx c 3) (pr 5), N), (dc (dx c 1) (pr 4), N), (dc (dx c 6) (pr 3), N),
   (dc (dx c 3) (pr 1), N), (dc (dx c 1) (pr 0), N), (dc (dx c 4) (pr 2), N)]

/-- A list of raises as a tally. -/
def tally (l : List (GSem nD τ sig × ℕ)) : CellTallies nD τ sig Unit := l.foldr (fun p acc => acc + tallyAt p.1 () p.2) 0
/-- What device `c` still owes after its first `n` raises. -/
def D (c : Dev nD) (n : ℕ) : CellTallies nD τ sig Unit := tally ((debts c).drop n)

theorem tally_pos {l : List (GSem nD τ sig × ℕ)} {g : GSem nD τ sig} {u : Unit} (h : 0 < tally l g u) : ∃ p ∈ l, p.1 = g := by
  induction l with
  | nil => exact absurd h (Nat.lt_irrefl 0)
  | cons p l ih =>
    have h' : 0 < (tally l + tallyAt p.1 () p.2) g u := h
    rw [Pi.add_apply, Finsupp.add_apply] at h'
    rcases Nat.add_pos_iff_pos_or_pos.mp h' with h' | h'
    · obtain ⟨q, hq, e⟩ := ih h'; exact ⟨q, List.mem_cons_of_mem _ hq, e⟩
    · rw [tallyAt_apply] at h'
      split at h'
      · next hg => exact ⟨p, List.mem_cons_self .., hg.1.symm⟩
      · exact absurd h' (Nat.lt_irrefl 0)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of the `n`-th DMA semaphore of device `t`: a block's by how many hops it has made, a partial result's
    after all blocks', a sum's after all partial results'. -/
def dlev (t : Dev nD) (n : ℕ) : ℕ :=
  if n < 12 then 0
  else if n < 20 then
    (match (n - 12) ^^^ t.val with
      | 1 | 3 | 4 => 2
      | 2 | 5 | 7 => 3
      | _ => 4)
  else if n < 28 then 0
  else if n < 31 then 6 else 5

/-- The levels: the staging and sending semaphores lowest, then the barrier, then by `dlev`. -/
def lv (g : GSem nD τ sig) (_ : Unit) : ℕ := match g.2 with
  | .reg _ => 1
  | .dma s => dlev g.1.1 s.val

theorem debt_tc (c : Dev nD) : ∀ p ∈ debts c, p.1.1.2 = Proc.tc := by
  unfold debts
  simp only [List.forall_mem_cons, List.not_mem_nil, false_implies, implies_true, and_true, and_self]

/-- A wait at a level below that of everything still owed is allowed. -/
theorem mayWait (c : Dev nD) (s : SemLoc sig) (n : ℕ) (h : ∀ p ∈ (debts c).drop n, lv ((c : Thread nD τ), s) () < lv p.1 ()) :
    (levAts L lv : sProp 𝕄) ⊢ MayWait (c : Thread nD τ) s () (D c n) :=
  MayOwe.of_cut (L := L) (lev := lv) (lv ((c : Thread nD τ), s) ())
    (fun p hp => by rw [Finset.mem_singleton.mp hp, L_tc]; exact Finset.mem_singleton_self _)
    (fun g u hg => by
      obtain ⟨p, hp, rfl⟩ := tally_pos hg
      unfold L; rw [if_pos (debt_tc c p (List.mem_of_mem_drop hp))]; exact Finset.mem_singleton_self _)
    (fun p hp => by rw [Finset.mem_singleton.mp hp])
    (fun g u hg => by obtain ⟨p, hp, rfl⟩ := tally_pos hg; exact h p hp)

end Cert.KernelIdeal.Run

end
-- ==== Proof.Steps.lean ====
/- One lemma for each kind of step of the kernel's text: a signal, a wait, a transfer, a read, a write. Each is
   stated once, for any device, any plane and any continuation. -/
module

public import proofs.«01_k».proof.Proof.Protocol

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

abbrev 𝒱₀ : Variants := Variants.none
/-- Running the text `k` on device `c` to the end, with `Q` there. -/
abbrev WP (c : Dev nD) (k : Pg F) (Q : PUnit → sProp 𝕄) : sProp 𝕄 := wp frame (wpE (defs₀ (F := F)) 𝒱₀ (c : Thread nD τ) none) Set.univ k Q

/-- What every device may consult: the invariants of all semaphores, the open barriers, the levels. -/
def recs (K : GSem nD τ sig → ℕ) : sProp 𝕄 :=
  iprop((bigSep Finset.univ fun c : Dev nD => cellInv ER (rd m) (K (barCell c)) (barCell c))
    ∗ (bigSep Finset.univ fun p : Dev nD × Fin 31 => cellInv ER (rd m) (K (dc p.1 p.2)) (dc p.1 p.2))
    ∗ (bigSep Finset.univ fun c : Dev nD => reached ER (barCell c) 0) ∗ levAts L lv)

instance recs_persistent (K : GSem nD τ sig → ℕ) : BI.Persistent (recs m K) := by unfold recs; infer_instance

/-- One of a family of resources. -/
theorem all_at {I : Type} [Fintype I] [DecidableEq I] (Φ : I → sProp 𝕄) (i : I) : bigSep Finset.univ Φ ⊢ Φ i := bigSep_elim (Finset.mem_univ i)

theorem recs_bar (K : GSem nD τ sig → ℕ) (c : Dev nD) : recs m K ⊢ cellInv ER (rd m) (K (barCell c)) (barCell c) := by
  unfold recs; iintro ⟨H, -⟩; iapply (all_at (fun c : Dev nD => (cellInv ER (rd m) (K (barCell c)) (barCell c) : sProp 𝕄)) c); iexact H
theorem recs_dma (K : GSem nD τ sig → ℕ) (c : Dev nD) (i : Fin 31) : recs m K ⊢ cellInv ER (rd m) (K (dc c i)) (dc c i) := by
  unfold recs; iintro ⟨-, H, -⟩
  iapply (all_at (fun p : Dev nD × Fin 31 => (cellInv ER (rd m) (K (dc p.1 p.2)) (dc p.1 p.2) : sProp 𝕄)) (c, i)); iexact H
theorem recs_reached (K : GSem nD τ sig → ℕ) (c : Dev nD) : recs m K ⊢ reached ER (barCell c) 0 := by
  unfold recs; iintro ⟨-, -, H, -⟩; iapply (all_at (fun c : Dev nD => (reached ER (barCell c) 0 : sProp 𝕄)) c); iexact H
theorem recs_lev (K : GSem nD τ sig → ℕ) : recs m K ⊢ levAts L lv := by
  unfold recs; iintro ⟨-, -, -, H⟩; iexact H

/-- Device `c` owes what its raises after the `n`-th come to. -/
def ow (c : Dev nD) (n : ℕ) : sProp 𝕄 := iprop(∃ W, owes (c : Thread nD τ) (D c n) W)

/-- Ready to wait on the `i`-th DMA semaphore. -/
def Aw (c : Dev nD) (i : Fin 31) : sProp 𝕄 := iprop(atPos ER (dc c i) 0 ∅ 0 ∗ cred (tallyAt (dc c i) () N))
/-- Waited on it. -/
def Dn (c : Dev nD) (i : Fin 31) : sProp 𝕄 := atPos ER (dc c i) 1 ∅ 0
/-- Ready to send with it. -/
def Sd (c : Dev nD) (i : Fin 31) : sProp 𝕄 := iprop(atPos ER (dc c i) 0 ∅ 0 ∗ reached ER (dc c i) 0 ∗ dutyTok ER (dc c i) 0 0)
/-- Allowed to write plane `P` of device `t`, raising its `i`-th DMA semaphore. -/
def Tg (t : Dev nD) (i : Fin 31) (P : Memref sig .tc .vmem S512x1024 .bf16) : sProp 𝕄 :=
  iprop(dutyTok ER (dc t i) 0 0 ∗ free t P ∗ reached ER (dc t i) 0)

/-! ## Signals and waits -/

theorem st_sig (K : GSem nD τ sig → ℕ) (c d : Dev nD) (n : ℕ) (hne : c ≠ d) (hD : D c n = D c (n + 1) + tallyAt (barCell d) () 1)
    (k : Pg F) (Q : PUnit → sProp 𝕄) :
    iprop(recs m K ∗ ow c n ∗ dutyTok ER (barCell d) 0 c ∗ barPay c (mask c d))
      ⊢ iprop((ow c (n + 1) -∗ WP c k Q) -∗ WP c (sigStep d k) Q) := by
  iintro ⟨#HR, HO, Ht, Hp⟩ Hk
  unfold ow sigStep
  icases HO with ⟨%W, HO⟩
  iapply (Rounds.wp_signal 𝒱₀ ER (rd m) (c : Thread nD τ) none (dst := (d : Thread nD τ)) (sem := barrier0) (r := 0) (d := c) (κ := K (barCell d))
      (by rw [duties_bar]; exact Finset.mem_erase.mpr ⟨hne, Finset.mem_univ _⟩) (amount_bar m d c) () (D c (n + 1)) hD)
    $$ [HO Ht Hp]
  · isplitr; · iapply (recs_bar m K d); iexact HR
    isplitl [HO]; · iexact HO
    isplitl [Ht]; · iexact Ht
    isplitl [Hp]; · rw [payload_bar]; iexact Hp
    iapply (recs_reached m K d); iexact HR
  iintro HO
  iapply Hk
  iexists W; iexact HO

theorem st_bar (K : GSem nD τ sig → ℕ) (c : Dev nD) (n : ℕ) (hlv : ∀ p ∈ (debts c).drop n, 1 < lv p.1 ()) (k : Pg F) (Q : PUnit → sProp 𝕄) :
    iprop(recs m K ∗ ow c n ∗ atPos ER (barCell c) 0 ∅ 0 ∗ cred (tallyAt (barCell c) () 7))
      ⊢ iprop(((ow c n ∗ atPos ER (barCell c) 1 ∅ 0 ∗ bigSep (Finset.univ.erase c) fun d => barPay d (mask d c)) -∗ WP c k Q)
          -∗ WP c (barStep k) Q) := by
  iintro ⟨#HR, HO, Ha, Hc⟩ Hk
  unfold ow barStep
  icases HO with ⟨%W, HO⟩
  iapply (Rounds.wp_wait_rest_token 𝒱₀ ER (rd m) (c : Thread nD τ) none (κ := K (barCell c))
      (wpE_semWait_eq 𝒱₀ (c : Thread nD τ) none Set.univ) (Set.mem_univ _) () (O := D c n) (W := W) (R := 0) (m := 0) (T := ∅)
      ((Nat.zero_add 7).trans (expect_bar m c).symm)) $$ [Hc HO Ha]
  · isplitr; · iapply (recs_bar m K c); iexact HR
    isplitl [Hc]; · iexact Hc
    isplitl [HO]; · iexact HO
    isplitr; · iapply (mayWait c (.reg barrier0) n hlv); iapply (recs_lev m K); iexact HR
    iexact Ha
  iintro ⟨HO, Ha, -, Hp⟩
  iapply Hk
  isplitl [HO]; · iexists _; iexact HO
  isplitl [Ha]; · iexact Ha
  iapply (Entails.of_eq (rest_bar m c)) $$ Hp

/-- Every plane's credit is the same. -/
theorem credit_eq (P : Memref sig .tc .vmem S512x1024 .bf16) : P.view.dmaCredit = N := rfl

theorem st_wait (K : GSem nD τ sig → ℕ) (c : Dev nD) (i : Fin 31) (n : ℕ) (s : DmaSem sig) (hs : s = dm i) (hu : used c i.val = true)
    (hlv : ∀ p ∈ (debts c).drop n, dlev c (4 + i.val) < lv p.1 ())
    (src dst : Memref sig .tc .vmem S512x1024 .bf16) (h1 : src.view.WordExact) (h2 : dst.view.WordExact) (k : Pg F) (Q : PUnit → sProp 𝕄) :
    iprop(recs m K ∗ ow c n ∗ Aw c i)
      ⊢ iprop(((ow c n ∗ Dn c i ∗ dpay m c i) -∗ WP c k Q) -∗ WP c (waitStep s src dst h1 h2 k) Q) := by
  subst hs
  iintro ⟨#HR, HO, HA⟩ Hk
  unfold ow Aw Dn waitStep
  icases HO with ⟨%W, HO⟩
  icases HA with ⟨Ha, Hc⟩
  iapply (Rounds.wp_wait_rest_token 𝒱₀ ER (rd m) (c : Thread nD τ) none (κ := K (dc c i))
      (wpE_waitDma2_eq 𝒱₀ (c : Thread nD τ) none Set.univ) (Set.mem_univ _) () (O := D c n) (W := W) (R := 0) (m := 0) (T := ∅)
      ((Nat.zero_add _).trans ((credit_eq dst).trans (expect_dma m c i hu).symm))) $$ [Hc HO Ha]
  · isplitr; · iapply (recs_dma m K c i); iexact HR
    isplitl [Hc]; · iexact Hc
    isplitl [HO]; · iexact HO
    isplitr; · iapply (mayWait c (.dma (dm i)) n hlv); iapply (recs_lev m K); iexact HR
    iexact Ha
  iintro ⟨HO, Ha, -, Hp⟩
  iapply Hk
  isplitl [HO]; · iexists _; iexact HO
  isplitl [Ha]; · iexact Ha
  iapply (Entails.of_eq (rest_dma m c i hu)) $$ Hp

/-! ## Transfers -/

theorem st_send (K : GSem nD τ sig → ℕ) (c t : Dev nD) (i j : Fin 31) (n : ℕ) (sS sR : DmaSem sig) (hsS : sS = dm i) (hsR : sR = dm j)
    (hui : used c i.val = true) (huj : used t j.val = true) (hD : D c n = D c (n + 1) + tallyAt (dc t j) () N)
    (src dst : Memref sig .tc .vmem S512x1024 .bf16) (hs : src.view.WordExact) (hd : dst.view.WordExact)
    (src' dst' : Memref sig .tc .vmem S512x1024 .bf16) (hsrc : src = src') (hdst : dst = dst') (q : PosShare TreeShare) (v : FVec F S512x1024 .bf16)
    (hp1 : (owns (c : Thread nD τ) src' q v : sProp 𝕄) ⊢ dpay m c i) (hp2 : (owns (t : Thread nD τ) dst' fullShare v : sProp 𝕄) ⊢ dpay m t j)
    (k : Pg F) (Q : PUnit → sProp 𝕄) :
    iprop(recs m K ∗ ow c n ∗ Sd c i ∗ Tg t j dst' ∗ owns (c : Thread nD τ) src' q v)
      ⊢ iprop(((ow c (n + 1) ∗ Aw c i) -∗ WP c k Q) -∗ WP c (sendStep src dst t sS sR hs hd k) Q) := by
  subst hsS hsR hsrc hdst
  iintro ⟨#HR, HO, HS, HT, Hsrc⟩ Hk
  unfold ow Sd Tg free Aw sendStep
  unfold owns
  icases HO with ⟨%W, HO⟩
  icases HS with ⟨Ha, #Hr1, Ht1⟩
  icases HT with ⟨Ht2, ⟨%v', %fd, -, Hdst⟩, #Hr2⟩
  icases Hsrc with ⟨%fs, %hfs, Hsrc⟩
  iapply (Rounds.wp_send_pointsTo 𝒱₀ ER (rd m) (c : Thread nD τ) none (c' := (t : Thread nD τ)) (src := src) (dst := dst)
      (sS := .dma (dm i)) (sem := .dma (dm j)) (q := q) (fs := fs) (κ₁ := K (dc c i)) (κ₂ := K (dc t j))
      (r₁ := 0) (r₂ := 0) (d₁ := 0) (d₂ := 0) (fd := fd)
      (by rw [duties_dma m c i hui]; exact Finset.mem_singleton_self _) (by rw [duties_dma m t j huj]; exact Finset.mem_singleton_self _)
      () () N (credit_eq dst) (amount_dma m c i 0) (amount_dma m t j 0) (D c (n + 1)) hD (W := W)
      (by
        rw [payload_dma]
        refine BI.Entails.trans ?_ hp1
        refine BI.Entails.trans (owns_intro (c : Thread nD τ) src q fs) ?_
        rw [hfs]; exact BI.Entails.refl _)
      (by
        rw [payload_dma]
        refine BI.Entails.trans ?_ hp2
        refine BI.Entails.trans (owns_intro (t : Thread nD τ) dst fullShare _) ?_
        rw [View.read_write_univ, hfs]; exact BI.Entails.refl _)) $$ [HO Ht1 Ht2 Hsrc Hdst]
  · isplitr; · iapply (recs_dma m K c i); iexact HR
    isplitr; · iapply (recs_dma m K t j); iexact HR
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Ha]; · iexact Ha
  iexact Hc

/-! ## Reads and writes -/

/-- A read of a whole staged block's rectangle. -/
theorem st_read (c : Dev nD) {sh : Shape} {e : EltTy} (M : Memref sig .tc .vmem sh e) (r : Rect sh) (q : PosShare TreeShare) (X : sh.Idx → Elt F e)
    (hl : M.view.LoadsAt r.toLoadRect) (k : (r.shape.Idx → Elt F e) → Pg F) (Q : PUnit → sProp 𝕄) :
    (owns (c : Thread nD τ) M q X : sProp 𝕄)
      ⊢ iprop((owns (c : Thread nD τ) M q X -∗ WP c (k fun j => X (r.emb j)) Q) -∗ WP c (.op (.load M r.toLoadRect hl) k) Q) := by
  iintro H Hk
  unfold owns
  icases H with ⟨%f, %hf, H⟩
  iapply (wp_load_rect (Val := Elt F) 𝒱₀ (c : Thread nD τ) none Set.univ (m := M) (r := r) (S := M.view.set) (q := q) (f := f) (View.set_slice_subset _ _)) $$ H
  iintro H
  have e : ((M.access r).read (Elt F) f) = fun j => X (r.emb j) := by rw [← hf]; rfl
  rw [e]
  iapply Hk
  iexists f; isplitr; · ipureintro; exact hf
  iexact H

/-- A read of one plane. -/
theorem st_load (c : Dev nD) {n : Nat} (M : Memref sig .tc .vmem (Stk n) .bf16) (o : Fin 3 → Nat) (h : InStk n o) (q : PosShare TreeShare)
    (v : Vec F S512x1024 .bf16) (P : Memref sig .tc .vmem S512x1024 .bf16) (hP : plane M o h = P) (k : Vec F S512x1024 .bf16 → Pg F) (Q : PUnit → sProp 𝕄) :
    (owns (c : Thread nD τ) P q v : sProp 𝕄)
      ⊢ iprop((owns (c : Thread nD τ) P q v -∗ WP c (k v) Q) -∗ WP c (loadStep M o h k) Q) := by
  subst hP
  iintro H Hk
  unfold owns loadStep
  icases H with ⟨%f, %hf, H⟩
  have hset : (plane M o h).view.set = (M.access (planeR n o h)).set := View.set_reshape _ _
  rw [hset]
  iapply (wp_load_rect (Val := Elt F) 𝒱₀ (c : Thread nD τ) none Set.univ (m := M) (r := planeR n o h) (S := (M.access (planeR n o h)).set) (q := q) (f := f)
    (Finset.Subset.refl _)) $$ H
  iintro H
  have e : dn ((M.access (planeR n o h)).read (Elt F) f) = v := hf
  rw [e]
  iapply Hk
  iexists f; isplitr; · ipureintro; exact hf
  iexact H

/-- An array put into a one-plane block and taken out again. -/
theorem dn_up {e : EltTy} (v : Vec F S512x1024 e) : dn (up v) = v := by
  funext j
  show v _ = v j
  congr 1
  exact (Shape.reshapeEquiv _).symm_apply_apply j

/-- A write of one plane. -/
theorem st_store (c : Dev nD) {n : Nat} (M : Memref sig .tc .vmem (Stk n) .bf16) (o : Fin 3 → Nat) (h : InStk n o) (v : Vec F S512x1024 .bf16)
    (hx : (M.access (planeR n o h)).Stores Finset.univ) (P : Memref sig .tc .vmem S512x1024 .bf16) (hP : plane M o h = P) (k : Pg F) (Q : PUnit → sProp 𝕄) :
    (free c P : sProp 𝕄)
      ⊢ iprop((owns (c : Thread nD τ) P fullShare v -∗ WP c k Q) -∗ WP c (storeStep M o h v hx k) Q) := by
  subst hP
  iintro H Hk
  unfold free owns storeStep
  icases H with ⟨%v0, %f, -, H⟩
  have hset : (plane M o h).view.set = (M.access (planeR n o h)).set := View.set_reshape _ _
  rw [hset]
  iapply (wp_load_rect (Val := Elt F) 𝒱₀ (c : Thread nD τ) none Set.univ (m := M) (r := planeR n o h) (S := (M.access (planeR n o h)).set) (q := fullShare) (f := f)
    (Finset.Subset.refl _)) $$ H
  iintro H
  iapply (wp_store (Val := Elt F) 𝒱₀ (c : Thread nD τ) none Set.univ (m := M) (r := planeR n o h) (w := up v) (Mk := Finset.univ)
    (S := (M.access (planeR n o h)).set) (f := f) (Finset.Subset.refl _)) $$ H
  iintro H
  iapply Hk
  iexists _
  isplitr
  · ipureintro
    have e : ((M.access (planeR n o h)).read (Elt F) ((M.access (planeR n o h)).write (Elt F) f (up v) Finset.univ)) = up v := View.read_write_univ ..
    exact (congrArg dn e).trans (dn_up v)
  iexact H

/-- The rectangle of the whole result block leaves every index where it is. -/
theorem outR_emb (j : outR.shape.Idx) : outR.emb j = j := by
  refine funext fun a => Fin.ext ?_
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
  | ⟨k + 3, h⟩ => exact absurd h (Nat.not_lt.2 (Nat.le_add_left _ _))

/-- A read of the result block. -/
theorem st_loadOut (c : Dev nD) (a3 : Memref sig .tc .vmem S1x512x1024 .f32) (t : Vec F S512x1024 .f32) (k : Vec F S512x1024 .f32 → Pg F) (Q : PUnit → sProp 𝕄) :
    (owns (c : Thread nD τ) a3 fullShare (up t) : sProp 𝕄)
      ⊢ iprop((owns (c : Thread nD τ) a3 fullShare (up t) -∗ WP c (k t) Q) -∗ WP c (loadOut a3 k) Q) := by
  have e : (fun x : Vec F S1x512x1024 .f32 => k (dn x)) (fun j => up t (outR.emb j)) = k t := by
    have e' : (fun j => up t (outR.emb j)) = up t := funext fun j => congrArg (up t) (outR_emb j)
    exact congrArg k ((congrArg dn e').trans (dn_up t))
  unfold loadOut
  have h := st_read c a3 outR fullShare (up t) (View.loadsAt_vmem h_S1x512x1024) (fun x => k (dn x)) Q
  exact e ▸ h

/-- A write of the result block, whatever it held. -/
theorem st_storeOut (c : Dev nD) (a3 : Memref sig .tc .vmem S1x512x1024 .f32) (X : Vec F S1x512x1024 .f32) (v : FVec F S512x1024 .f32) (k : Pg F) (Q : PUnit → sProp 𝕄) :
    (owns (c : Thread nD τ) a3 fullShare X : sProp 𝕄)
      ⊢ iprop((owns (c : Thread nD τ) a3 fullShare (up v) -∗ WP c k Q) -∗ WP c (storeOut a3 v k) Q) := by
  iintro H Hk
  unfold storeOut owns
  icases H with ⟨%f, -, H⟩
  iapply (wp_load_rect (Val := Elt F) 𝒱₀ (c : Thread nD τ) none Set.univ (m := a3) (r := outR) (S := a3.view.set) (q := fullShare) (f := f)
    (View.set_slice_subset _ _)) $$ H
  iintro H
  iapply (wp_store (Val := Elt F) 𝒱₀ (c : Thread nD τ) none Set.univ (m := a3) (r := outR) (w := up v) (Mk := Finset.univ)
    (S := a3.view.set) (f := f) (View.set_slice_subset _ _)) $$ H
  iintro H
  iapply Hk
  iexists _
  isplitr
  · ipureintro
    have e : ((a3.access outR).read (Elt F) ((a3.access outR).write (Elt F) f (up v) Finset.univ)) = up v := View.read_write_univ ..
    funext j
    have ej := congrFun e j
    have e2 : (a3.access outR).read (Elt F) ((a3.access outR).write (Elt F) f (up v) Finset.univ) j
        = a3.view.read (Elt F) ((a3.access outR).write (Elt F) f (up v) Finset.univ) (outR.emb j) := rfl
    rw [e2, outR_emb] at ej
    exact ej
  iexact H

/-- A plane and the weights are read, and the share of the result is reckoned from them. -/
theorem st_part (c : Dev nD) (a1 : Memref sig .tc .vmem S1024x3072 .bf16) (a2 : Memref sig .tc .vmem S1024x1024 .bf16)
    (a4 : Memref sig .tc .vmem S8x512x1024 .bf16) (o : Fin 3 → Nat) (h : InStk 8 o) (q : PosShare TreeShare) (g : Dev nD)
    (P : Memref sig .tc .vmem S512x1024 .bf16) (hP : plane a4 o h = P)
    (k : FVec F S512x1024 .f32 → Pg F) (Q : PUnit → sProp 𝕄) :
    iprop(owns (c : Thread nD τ) a1 fullShare (X1 m c) ∗ owns (c : Thread nD τ) a2 fullShare (X2 m c) ∗ owns (c : Thread nD τ) P q (xb m g))
      ⊢ iprop(((owns (c : Thread nD τ) a1 fullShare (X1 m c) ∗ owns (c : Thread nD τ) a2 fullShare (X2 m c) ∗ owns (c : Thread nD τ) P q (xb m g))
            -∗ WP c (k (own m c g)) Q) -∗ WP c (partStep a1 a2 a4 o h k) Q) := by
  iintro ⟨H1, H2, H⟩ Hk
  have e : partStep a1 a2 a4 o h k = loadStep a4 o h fun x =>
    .op (.load a1 (Rect.unit (s := S1024x3072) ![0, 0] S1024x1024.size inb_S1024x3072_S1024x1024_0_0).toLoadRect (View.loadsAt_vmem h_S1024x1024)) fun wq =>
    .op (.load a1 (Rect.unit (s := S1024x3072) ![0, 1024] S1024x1024.size inb_S1024x3072_S1024x1024_0_1024).toLoadRect (View.loadsAt_vmem h_S1024x1024)) fun wk =>
    .op (.load a1 (Rect.unit (s := S1024x3072) ![0, 2048] S1024x1024.size inb_S1024x3072_S1024x1024_0_2048).toLoadRect (View.loadsAt_vmem h_S1024x1024)) fun wv =>
    .op (.load a2 (Rect.unit (s := S1024x1024) ![0, 0] S1024x1024.size inb_S1024x1024_S1024x1024_0_0).toLoadRect (View.loadsAt_vmem h_S1024x1024)) fun wo =>
    k (part x wq wk wv wo) := rfl
  rw [e]
  iapply (st_load c a4 o h q (xb m g) P hP) $$ H
  iintro H
  iapply (st_read c a1 _ fullShare (X1 m c) (View.loadsAt_vmem h_S1024x1024)) $$ H1
  iintro H1
  iapply (st_read c a1 _ fullShare (X1 m c) (View.loadsAt_vmem h_S1024x1024)) $$ H1
  iintro H1
  iapply (st_read c a1 _ fullShare (X1 m c) (View.loadsAt_vmem h_S1024x1024)) $$ H1
  iintro H1
  iapply (st_read c a2 _ fullShare (X2 m c) (View.loadsAt_vmem h_S1024x1024)) $$ H2
  iintro H2
  iapply Hk
  isplitl [H1]; · iexact H1
  isplitl [H2]; · iexact H2
  iexact H

/-- Two planes are added into the first. -/
theorem st_add (c : Dev nD) (a5 : Memref sig .tc .vmem S7x512x1024 .bf16) (a7 : Memref sig .tc .vmem S4x512x1024 .bf16) (o o' : Fin 3 → Nat)
    (h : InStk 7 o) (h' : InStk 4 o') (hx : (a5.access (planeR 7 o h)).Stores Finset.univ) (x y : FVec F S512x1024 .bf16) (k : Pg F) (Q : PUnit → sProp 𝕄) :
    iprop(owns (c : Thread nD τ) (plane a5 o h) fullShare x ∗ owns (c : Thread nD τ) (plane a7 o' h') fullShare y)
      ⊢ iprop(((owns (c : Thread nD τ) (plane a5 o h) fullShare (addB x y) ∗ owns (c : Thread nD τ) (plane a7 o' h') fullShare y) -∗ WP c k Q)
          -∗ WP c (addStep a5 a7 o o' h h' hx k) Q) := by
  iintro ⟨Hx, Hy⟩ Hk
  unfold addStep
  iapply (st_load c a5 o h fullShare x _ rfl) $$ Hx
  iintro Hx
  iapply (st_load c a7 o' h' fullShare y _ rfl) $$ Hy
  iintro Hy
  iapply (st_store c a5 o h (addB x y) hx _ rfl) $$ [Hx]
  · unfold free; iexists x; iexact Hx
  iintro Hx
  iapply Hk
  isplitl [Hx]; · iexact Hx
  iexact Hy

/-- A plane is added into the result. -/
theorem st_acc (c : Dev nD) (a3 : Memref sig .tc .vmem S1x512x1024 .f32) (a5 : Memref sig .tc .vmem S7x512x1024 .bf16) (o : Fin 3 → Nat)
    (h : InStk 7 o) (t : FVec F S512x1024 .f32) (y : FVec F S512x1024 .bf16) (k : Pg F) (Q : PUnit → sProp 𝕄) :
    iprop(owns (c : Thread nD τ) a3 fullShare (up t) ∗ owns (c : Thread nD τ) (plane a5 o h) fullShare y)
      ⊢ iprop(((owns (c : Thread nD τ) a3 fullShare (up (accB t y)) ∗ owns (c : Thread nD τ) (plane a5 o h) fullShare y) -∗ WP c k Q)
          -∗ WP c (accStep a3 a5 o h k) Q) := by
  iintro ⟨Ht, Hy⟩ Hk
  unfold accStep
  iapply (st_loadOut c a3 t) $$ Ht
  iintro Ht
  iapply (st_load c a5 o h fullShare y _ rfl) $$ Hy
  iintro Hy
  iapply (st_storeOut c a3 (up t) (accB t y)) $$ Ht
  iintro Ht
  iapply Hk
  isplitl [Ht]; · iexact Ht
  iexact Hy

end Cert.KernelIdeal.Run

end
-- ==== Proof.Places.lean ====
/- The devices, planes and semaphores the text names by machine words, by their distances and numbers. -/
module

public import proofs.«01_k».proof.Proof.Steps

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

/-! ## Names of places in the text -/

/-- A plane at an offset is the plane of that number. -/
theorem plane_nth {n : Nat} (M : Memref sig .tc .vmem (Stk n) .bf16) (o : Fin 3 → Nat) (h : InStk n o) (i : Fin n) (e : o = ![i.val, 0, 0]) :
    plane M o h = nth M i := by subst e; rfl

/-- A number below the length of an array of semaphores is a place in it. -/
theorem semIn {n : Nat} (i : Fin n) : ∀ a, (![i.val] : Fin 1 → Nat) a + S1.size a ≤ (⟨1, ![n]⟩ : Shape).size a := fun a => by
  have := i.isLt
  match a with
  | ⟨0, _⟩ => show i.val + 1 ≤ n; omega
  | ⟨k + 1, h⟩ => exact absurd h (Nat.not_lt.2 (Nat.le_add_left _ _))

/-! The semaphores of the four arrays, by number. -/

theorem sem_xs (o : Fin 1 → Nat) (h : ∀ a, o a + S1.size a ≤ S8.size a) (k : Fin 8) (e : o = ![k.val]) : semAt cc0_scratch4 o h = dm (xs k) := by
  subst e
  have hk : ∀ k : Fin 8, semAt cc0_scratch4 ![k.val] (semIn k) = dm (xs k) := by decide +kernel
  exact hk k
theorem sem_xr (o : Fin 1 → Nat) (h : ∀ a, o a + S1.size a ≤ S8.size a) (k : Fin 8) (e : o = ![k.val]) : semAt cc0_scratch5 o h = dm (xr k) := by
  subst e
  have hk : ∀ k : Fin 8, semAt cc0_scratch5 ![k.val] (semIn k) = dm (xr k) := by decide +kernel
  exact hk k
theorem sem_ps (o : Fin 1 → Nat) (h : ∀ a, o a + S1.size a ≤ S8.size a) (k : Fin 8) (e : o = ![k.val]) : semAt cc0_scratch6 o h = dm (ps k) := by
  subst e
  have hk : ∀ k : Fin 8, semAt cc0_scratch6 ![k.val] (semIn k) = dm (ps k) := by decide +kernel
  exact hk k
theorem sem_pr (o : Fin 1 → Nat) (h : ∀ a, o a + S1.size a ≤ S7.size a) (k : Fin 7) (e : o = ![k.val]) : semAt cc0_scratch7 o h = dm (pr k) := by
  subst e
  have hk : ∀ k : Fin 7, semAt cc0_scratch7 ![k.val] (semIn k) = dm (pr k) := by decide +kernel
  exact hk k

theorem dev_1 (c : Dev nD) : (⟨k0_dev1 c, k0_dev1_lt c⟩ : Dev nD) = rot c 1 := by revert c; decide +kernel
theorem dev_2 (c : Dev nD) : (⟨k0_dev2 c, k0_dev2_lt c⟩ : Dev nD) = rot c 2 := by revert c; decide +kernel
theorem dev_3 (c : Dev nD) : (⟨k0_dev3 c, k0_dev3_lt c⟩ : Dev nD) = rot c 3 := by revert c; decide +kernel
theorem dev_4 (c : Dev nD) : (⟨k0_dev4 c, k0_dev4_lt c⟩ : Dev nD) = rot c 4 := by revert c; decide +kernel
theorem dev_5 (c : Dev nD) : (⟨k0_dev5 c, k0_dev5_lt c⟩ : Dev nD) = rot c 5 := by revert c; decide +kernel
theorem dev_6 (c : Dev nD) : (⟨k0_dev6 c, k0_dev6_lt c⟩ : Dev nD) = rot c 6 := by revert c; decide +kernel
theorem dev_7 (c : Dev nD) : (⟨k0_dev7 c, k0_dev7_lt c⟩ : Dev nD) = rot c 7 := by revert c; decide +kernel
theorem dev_8 (c : Dev nD) : (⟨k0_dev8 c, k0_dev8_lt c⟩ : Dev nD) = dx c 1 := by revert c; decide +kernel
theorem dev_9 (c : Dev nD) : (⟨k0_dev9 c, k0_dev9_lt c⟩ : Dev nD) = dx c 3 := by revert c; decide +kernel
theorem dev_10 (c : Dev nD) : (⟨k0_dev10 c, k0_dev10_lt c⟩ : Dev nD) = dx c 4 := by revert c; decide +kernel
theorem dev_11 (c : Dev nD) : (⟨k0_dev11 c, k0_dev11_lt c⟩ : Dev nD) = dx c 3 := by revert c; decide +kernel
theorem dev_12 (c : Dev nD) : (⟨k0_dev12 c, k0_dev12_lt c⟩ : Dev nD) = dx c 4 := by revert c; decide +kernel
theorem dev_13 (c : Dev nD) : (⟨k0_dev13 c, k0_dev13_lt c⟩ : Dev nD) = dx c 1 := by revert c; decide +kernel
theorem dev_14 (c : Dev nD) : (⟨k0_dev14 c, k0_dev14_lt c⟩ : Dev nD) = dx c 1 := by revert c; decide +kernel
theorem dev_15 (c : Dev nD) : (⟨k0_dev15 c, k0_dev15_lt c⟩ : Dev nD) = dx c 4 := by revert c; decide +kernel
theorem dev_16 (c : Dev nD) : (⟨k0_dev16 c, k0_dev16_lt c⟩ : Dev nD) = dx c 3 := by revert c; decide +kernel
theorem dev_17 (c : Dev nD) : (⟨k0_dev17 c, k0_dev17_lt c⟩ : Dev nD) = dx c 1 := by revert c; decide +kernel
theorem dev_18 (c : Dev nD) : (⟨k0_dev18 c, k0_dev18_lt c⟩ : Dev nD) = dx c 6 := by revert c; decide +kernel
theorem dev_19 (c : Dev nD) : (⟨k0_dev19 c, k0_dev19_lt c⟩ : Dev nD) = dx c 3 := by revert c; decide +kernel
theorem dev_20 (c : Dev nD) : (⟨k0_dev20 c, k0_dev20_lt c⟩ : Dev nD) = dx c 1 := by revert c; decide +kernel
theorem dev_21 (c : Dev nD) : (⟨k0_dev21 c, k0_dev21_lt c⟩ : Dev nD) = dx c 4 := by revert c; decide +kernel

theorem off1 (c : Dev nD) : k0_off1 c = ![c.val, 0, 0] := Gen.k0_off1_eq c
theorem off3 (c : Dev nD) : k0_off3 c = ![c.val, 0, 0] := Gen.k0_off3_eq c
theorem off2 (c : Dev nD) : k0_off2 c = ![c.val] := Gen.k0_off2_eq c
theorem off4 (c : Dev nD) (r : Fin 7) : k0_off4 c (BitVec.ofNat 32 (1 + r.val)) = ![(dx c (1 + r.val)).val] := by revert c r; decide +kernel
theorem off5 (c : Dev nD) (r : Fin 7) : k0_off5 c (BitVec.ofNat 32 (1 + r.val)) = ![(dx c (1 + r.val)).val, 0, 0] := by revert c r; decide +kernel
theorem off6 (c : Dev nD) (r : Fin 7) : k0_off6 c (BitVec.ofNat 32 (1 + r.val)) = ![(dx c (1 + r.val)).val, 0, 0] := by revert c r; decide +kernel

end Cert.KernelIdeal.Run

end
-- ==== Proof.Units.lean ====
/- What each recurring piece of the text does, stated once: a block arriving and passed on, a share of the result
   stored, given away, summed, added up. -/
module

public import proofs.«01_k».proof.Proof.Places

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

/-- The weights of device `c`, staged. -/
def Wt (c : Dev nD) (a1 : Memref sig .tc .vmem S1024x3072 .bf16) (a2 : Memref sig .tc .vmem S1024x1024 .bf16) : sProp 𝕄 :=
  iprop(owns (c : Thread nD τ) a1 fullShare (X1 m c) ∗ owns (c : Thread nD τ) a2 fullShare (X2 m c))

section Units
variable (K : GSem nD τ sig → ℕ) (c : Dev nD) (a0 : Memref sig .tc .vmem S512x1024 .bf16) (a1 : Memref sig .tc .vmem S1024x3072 .bf16)
  (a2 : Memref sig .tc .vmem S1024x1024 .bf16) (a3 : Memref sig .tc .vmem S1x512x1024 .f32)
  (h4 : M4.IsWhole)

/-- The share of the result on a received block, reckoned and stored. -/
theorem un_stash {n : Nat} (M : Memref sig .tc .vmem (Stk n) .bf16) (o : Fin 3 → Nat) (h : InStk n o) (hx : (M.access (planeR n o h)).Stores Finset.univ)
    (w : BitVec 32) (r : Fin 7) (hr : w = BitVec.ofNat 32 (1 + r.val)) (g : Dev nD) (hg : g = dx c (1 + r.val)) (q : PosShare TreeShare) (k : Pg F) (Q : PUnit → sProp 𝕄) :
    iprop(Wt m c a1 a2 ∗ owns (c : Thread nD τ) (nth M4 g) q (xb m g) ∗ free c (plane M o h))
      ⊢ iprop(((Wt m c a1 a2 ∗ owns (c : Thread nD τ) (nth M4 g) q (xb m g) ∗ owns (c : Thread nD τ) (plane M o h) fullShare (pt m c g)) -∗ WP c k Q)
          -∗ WP c (stash c a1 a2 M4 M o h hx w r hr k) Q) := by
  subst hr hg
  iintro ⟨HW, Hx, Hf⟩ Hk
  unfold stash Wt
  icases HW with ⟨H1, H2⟩
  iapply (st_part m c a1 a2 M4 _ _ q (dx c (1 + r.val)) (nth M4 (dx c (1 + r.val))) (plane_nth _ _ _ _ (off6 c r))) $$ [H1 H2 Hx]
  · isplitl [H1]; · iexact H1
    isplitl [H2]; · iexact H2
    iexact Hx
  iintro ⟨H1, H2, Hx⟩
  iapply (st_store c M o h _ hx _ rfl) $$ Hf
  iintro Hf
  iapply Hk
  isplitl [H1 H2]
  · isplitl [H1]; · iexact H1
    iexact H2
  isplitl [Hx]; · iexact Hx
  iexact Hf

/-- A block arrives. -/
theorem un_arrive (r : Fin 7) (g : Dev nD) (hg : g = dx c (1 + r.val)) (n : ℕ) (s : DmaSem sig) (hs : s = dm (xr g)) (hu : used c (8 + g.val) = true)
    (hlv : ∀ p ∈ (debts c).drop n, dlev c (4 + (8 + g.val)) < lv p.1 ())
    (src dst : Memref sig .tc .vmem S512x1024 .bf16) (h1 : src.view.WordExact) (h2 : dst.view.WordExact) (k : Pg F) (Q : PUnit → sProp 𝕄) :
    iprop(recs m K ∗ ow c n ∗ Aw c (xr g))
      ⊢ iprop(((ow c n ∗ Dn c (xr g) ∗ owns (c : Thread nD τ) (nth M4 g) fullShare (xb m g)) -∗ WP c k Q) -∗ WP c (waitStep s src dst h1 h2 k) Q) := by
  have h := st_wait m K c (xr g) n s hs hu hlv src dst h1 h2 k Q
  rw [dpay_xr] at h
  exact h

/-- A block arrives, is sent on, and the share of the result on it is stored. -/
theorem un_hop {nn : Nat} (M : Memref sig .tc .vmem (Stk nn) .bf16) (o : Fin 3 → Nat) (h : InStk nn o) (hx : (M.access (planeR nn o h)).Stores Finset.univ)
    (w : BitVec 32) (r : Fin 7) (hr : w = BitVec.ofNat 32 (1 + r.val)) (g : Dev nD) (hg : g = dx c (1 + r.val)) (d t : Dev nD) (hd : d = t)
    (j : Fin 1 → Nat) (hj : ∀ a, j a + S1.size a ≤ S8.size a) (i : Fin 8) (hi : j = ![i.val]) (n : ℕ) (hu : used c (8 + g.val) = true)
    (hui : used c i.val = true) (hut : used t (8 + g.val) = true)
    (hlv : ∀ p ∈ (debts c).drop n, dlev c (4 + (8 + g.val)) < lv p.1 ()) (hD : D c n = D c (n + 1) + tallyAt (dc t (xr g)) () N)
    (hp : xsPay m c i = owns (c : Thread nD τ) (nth M4 g) fullShare.left (xb m g)) (k : Pg F) (Q : PUnit → sProp 𝕄) :
    iprop(recs m K ∗ ow c n ∗ Aw c (xr g) ∗ Sd c (xs i) ∗ Tg t (xr g) (nth M4 g) ∗ Wt m c a1 a2 ∗ free c (plane M o h))
      ⊢ iprop(((ow c (n + 1) ∗ Dn c (xr g) ∗ Aw c (xs i) ∗ owns (c : Thread nD τ) (nth M4 g) fullShare.right (xb m g) ∗ Wt m c a1 a2
            ∗ owns (c : Thread nD τ) (plane M o h) fullShare (pt m c g)) -∗ WP c k Q)
          -∗ WP c (passOn c M4 h4 cc0_scratch4 cc0_scratch5 w r hr d j hj (stash c a1 a2 M4 M o h hx w r hr k)) Q) := by
  subst hr hd
  iintro ⟨#HR, HO, HA, HS, HT, HW, Hf⟩ Hk
  unfold passOn
  have hsem : semAt cc0_scratch5 (k0_off4 c (BitVec.ofNat 32 (1 + r.val))) (k0_off4_inb c r) = dm (xr g) := sem_xr _ _ g (by rw [hg]; exact off4 c r)
  have hpl : plane M4 (k0_off5 c (BitVec.ofNat 32 (1 + r.val))) (k0_off5_inb c r) = nth M4 g := plane_nth _ _ _ _ (by rw [hg]; exact off5 c r)
  iapply (un_arrive m K c r g hg n _ hsem hu hlv) $$ [HO HA]
  · isplitr; · iexact HR
    isplitl [HO]; · iexact HO
    iexact HA
  iintro ⟨HO, Hd, Hx⟩
  ihave Hx2 := (owns_halves (c : Thread nD τ) (nth M4 g) fullShare (xb m g)).1 $$ Hx
  icases Hx2 with ⟨Hl, Hr⟩
  iapply (st_send m K c d (xs i) (xr g) n _ _ (sem_xs j hj i hi) hsem hui hut hD _ _ _ _ (nth M4 g) (nth M4 g) hpl hpl fullShare.left (xb m g)
      (by rw [dpay_xs, hp]) (by rw [dpay_xr])) $$ [HO HS HT Hl]
  · isplitr; · iexact HR
    isplitl [HO]; · iexact HO
    isplitl [HS]; · iexact HS
    isplitl [HT]; · iexact HT
    iexact Hl
  iintro ⟨HO, HA⟩
  iapply (un_stash m c a1 a2 M o h hx _ r rfl g hg fullShare.right) $$ [HW Hr Hf]
  · isplitl [HW]; · iexact HW
    isplitl [Hr]; · iexact Hr
    iexact Hf
  iintro ⟨HW, Hr, Hf⟩
  iapply Hk
  isplitl [HO]; · iexact HO
  isplitl [Hd]; · iexact Hd
  isplitl [HA]; · iexact HA
  isplitl [Hr]; · iexact Hr
  isplitl [HW]; · iexact HW
  iexact Hf

/-- A plane is sent to another device's plane of arrivals. -/
theorem un_give {nn : Nat} (M : Memref sig .tc .vmem (Stk nn) .bf16) (o : Fin 3 → Nat) (h : InStk nn o) (hw : (plane M o h).view.WordExact)
    (o' : Fin 3 → Nat) (h' : InStk 7 o') (hw' : (plane M5 o' h').view.WordExact) (d t : Dev nD) (hd : d = t)
    (j : Fin 1 → Nat) (hj : ∀ a, j a + S1.size a ≤ S8.size a) (i : Fin 8) (hi : j = ![i.val])
    (l : Fin 1 → Nat) (hl : ∀ a, l a + S1.size a ≤ S7.size a) (b : Fin 7) (hb : l = ![b.val]) (ho : o' = ![b.val, 0, 0]) (n : ℕ)
    (hui : used c (16 + i.val) = true) (hut : used t (24 + b.val) = true) (hD : D c n = D c (n + 1) + tallyAt (dc t (pr b)) () N)
    (v : FVec F S512x1024 .bf16) (hv : landing m t b = v) (hp : psPay (F := F) c i = free c (plane M o h)) (k : Pg F) (Q : PUnit → sProp 𝕄) :
    iprop(recs m K ∗ ow c n ∗ Sd c (ps i) ∗ Tg t (pr b) (nth M5 b) ∗ owns (c : Thread nD τ) (plane M o h) fullShare v)
      ⊢ iprop(((ow c (n + 1) ∗ Aw c (ps i)) -∗ WP c k Q)
          -∗ WP c (give M5 cc0_scratch6 cc0_scratch7 M o h hw o' h' hw' d j hj l hl k) Q) := by
  subst hd
  unfold give
  exact st_send m K c d (ps i) (pr b) n _ _ (sem_ps j hj i hi) (sem_pr l hl b hb) hui hut hD _ _ _ _ (plane M o h) (nth M5 b) rfl (plane_nth _ _ _ _ ho) fullShare v
      (by rw [dpay_ps, hp]; unfold free; iintro H; iexists v; iexact H) (by rw [dpay_pr, hv]) k Q

/-- A block arrives, the share of the result on it is stored and sent on. -/
theorem un_last {nn : Nat} (M : Memref sig .tc .vmem (Stk nn) .bf16) (o : Fin 3 → Nat) (h : InStk nn o) (hx : (M.access (planeR nn o h)).Stores Finset.univ)
    (hw : (plane M o h).view.WordExact) (o' : Fin 3 → Nat) (h' : InStk 7 o') (hw' : (plane M5 o' h').view.WordExact) (d t : Dev nD) (hd : d = t)
    (w : BitVec 32) (r : Fin 7) (hr : w = BitVec.ofNat 32 (1 + r.val)) (g : Dev nD) (hg : g = dx c (1 + r.val))
    (j : Fin 1 → Nat) (hj : ∀ a, j a + S1.size a ≤ S8.size a) (i : Fin 8) (hi : j = ![i.val])
    (l : Fin 1 → Nat) (hl : ∀ a, l a + S1.size a ≤ S7.size a) (b : Fin 7) (hb : l = ![b.val]) (ho : o' = ![b.val, 0, 0]) (n : ℕ)
    (hu : used c (8 + g.val) = true) (hlv : ∀ p ∈ (debts c).drop n, dlev c (4 + (8 + g.val)) < lv p.1 ())
    (hui : used c (16 + i.val) = true) (hut : used t (24 + b.val) = true) (hD : D c n = D c (n + 1) + tallyAt (dc t (pr b)) () N)
    (hv : landing m t b = pt m c g) (hp : psPay (F := F) c i = free c (plane M o h))
    (oa : Fin 3 → Nat) (ha : InStk 8 oa) (hwa : (plane M4 oa ha).view.WordExact) (la : Fin 1 → Nat) (hla : ∀ a, la a + S1.size a ≤ S8.size a) (ea : la = ![g.val])
    (k : Pg F) (Q : PUnit → sProp 𝕄) :
    iprop(recs m K ∗ ow c n ∗ Aw c (xr g) ∗ Wt m c a1 a2 ∗ free c (plane M o h) ∗ Sd c (ps i) ∗ Tg t (pr b) (nth M5 b))
      ⊢ iprop(((ow c (n + 1) ∗ Dn c (xr g) ∗ owns (c : Thread nD τ) (nth M4 g) fullShare (xb m g) ∗ Wt m c a1 a2 ∗ Aw c (ps i)) -∗ WP c k Q)
          -∗ WP c (arrive M4 cc0_scratch5 oa ha la hla hwa (stash c a1 a2 M4 M o h hx w r hr (give M5 cc0_scratch6 cc0_scratch7 M o h hw o' h' hw' d j hj l hl k))) Q) := by
  iintro ⟨#HR, HO, HA, HW, Hf, HS, HT⟩ Hk
  iapply (un_arrive m K c r g hg n _ (sem_xr _ _ g ea) hu hlv) $$ [HO HA]
  · isplitr; · iexact HR
    isplitl [HO]; · iexact HO
    iexact HA
  iintro ⟨HO, Hd, Hx⟩
  iapply (un_stash m c a1 a2 M o h hx _ r hr g hg fullShare) $$ [HW Hx Hf]
  · isplitl [HW]; · iexact HW
    isplitl [Hx]; · iexact Hx
    iexact Hf
  iintro ⟨HW, Hx, Hf⟩
  iapply (un_give m K c M o h hw o' h' hw' d t hd j hj i hi l hl b hb ho n hui hut hD _ hv hp) $$ [HO HS HT Hf]
  · isplitr; · iexact HR
    isplitl [HO]; · iexact HO
    isplitl [HS]; · iexact HS
    isplitl [HT]; · iexact HT
    iexact Hf
  iintro ⟨HO, HA⟩
  iapply Hk
  isplitl [HO]; · iexact HO
  isplitl [Hd]; · iexact Hd
  isplitl [Hx]; · iexact Hx
  isplitl [HW]; · iexact HW
  iexact HA

/-- A partial result arrives. -/
theorem un_take (o : Fin 3 → Nat) (h : InStk 7 o) (hw : (plane M5 o h).view.WordExact) (l : Fin 1 → Nat) (hl : ∀ a, l a + S1.size a ≤ S7.size a)
    (b : Fin 7) (hb : l = ![b.val]) (ho : o = ![b.val, 0, 0]) (n : ℕ) (hu : used c (24 + b.val) = true)
    (hlv : ∀ p ∈ (debts c).drop n, dlev c (4 + (24 + b.val)) < lv p.1 ()) (k : Pg F) (Q : PUnit → sProp 𝕄) :
    iprop(recs m K ∗ ow c n ∗ Aw c (pr b))
      ⊢ iprop(((ow c n ∗ Dn c (pr b) ∗ owns (c : Thread nD τ) (plane M5 o h) fullShare (landing m c b)) -∗ WP c k Q)
          -∗ WP c (take M5 cc0_scratch7 o h hw l hl k) Q) := by
  subst ho
  unfold take
  have h := st_wait m K c (pr b) n _ (sem_pr l hl b hb) hu hlv (nth M5 b) (nth M5 b) hw hw k Q
  rw [dpay_pr] at h
  exact h

/-- A partial result arrives, one of this device's own is added to it, and the sum is sent on. -/
theorem un_sum (o : Fin 3 → Nat) (h : InStk 7 o) (hw : (plane M5 o h).view.WordExact) (l : Fin 1 → Nat) (hl : ∀ a, l a + S1.size a ≤ S7.size a)
    (b : Fin 7) (hb : l = ![b.val]) (ho : o = ![b.val, 0, 0]) (n : ℕ) (hu : used c (24 + b.val) = true)
    (hlv : ∀ p ∈ (debts c).drop n, dlev c (4 + (24 + b.val)) < lv p.1 ())
    (oy : Fin 3 → Nat) (hy : InStk 4 oy) (y : FVec F S512x1024 .bf16) (hx : (M5.access (planeR 7 o h)).Stores Finset.univ)
    (o' : Fin 3 → Nat) (h' : InStk 7 o') (hw' : (plane M5 o' h').view.WordExact) (d t : Dev nD) (hd : d = t)
    (j : Fin 1 → Nat) (hj : ∀ a, j a + S1.size a ≤ S8.size a) (i : Fin 8) (hi : j = ![i.val])
    (l' : Fin 1 → Nat) (hl' : ∀ a, l' a + S1.size a ≤ S7.size a) (b' : Fin 7) (hb' : l' = ![b'.val]) (ho' : o' = ![b'.val, 0, 0])
    (hui : used c (16 + i.val) = true) (hut : used t (24 + b'.val) = true) (hD : D c n = D c (n + 1) + tallyAt (dc t (pr b')) () N)
    (hv : landing m t b' = addB (landing m c b) y) (hp : psPay (F := F) c i = free c (plane M5 o h)) (k : Pg F) (Q : PUnit → sProp 𝕄) :
    iprop(recs m K ∗ ow c n ∗ Aw c (pr b) ∗ owns (c : Thread nD τ) (plane M7 oy hy) fullShare y ∗ Sd c (ps i) ∗ Tg t (pr b') (nth M5 b'))
      ⊢ iprop(((ow c (n + 1) ∗ Dn c (pr b) ∗ owns (c : Thread nD τ) (plane M7 oy hy) fullShare y ∗ Aw c (ps i)) -∗ WP c k Q)
          -∗ WP c (take M5 cc0_scratch7 o h hw l hl (addStep M5 M7 o oy h hy hx
            (give M5 cc0_scratch6 cc0_scratch7 M5 o h hw o' h' hw' d j hj l' hl' k))) Q) := by
  iintro ⟨#HR, HO, HA, Hy, HS, HT⟩ Hk
  iapply (un_take m K c o h hw l hl b hb ho n hu hlv) $$ [HO HA]
  · isplitr; · iexact HR
    isplitl [HO]; · iexact HO
    iexact HA
  iintro ⟨HO, Hd, Hx⟩
  iapply (st_add c M5 M7 o oy h hy hx (landing m c b) y) $$ [Hx Hy]
  · isplitl [Hx]; · iexact Hx
    iexact Hy
  iintro ⟨Hx, Hy⟩
  iapply (un_give m K c M5 o h hw o' h' hw' d t hd j hj i hi l' hl' b' hb' ho' n hui hut hD _ hv hp) $$ [HO HS HT Hx]
  · isplitr; · iexact HR
    isplitl [HO]; · iexact HO
    isplitl [HS]; · iexact HS
    isplitl [HT]; · iexact HT
    iexact Hx
  iintro ⟨HO, HA⟩
  iapply Hk
  isplitl [HO]; · iexact HO
  isplitl [Hd]; · iexact Hd
  isplitl [Hy]; · iexact Hy
  iexact HA

/-- A sum arrives and is added into the result. -/
theorem un_total (o : Fin 3 → Nat) (h : InStk 7 o) (hw : (plane M5 o h).view.WordExact) (l : Fin 1 → Nat) (hl : ∀ a, l a + S1.size a ≤ S7.size a)
    (b : Fin 7) (hb : l = ![b.val]) (ho : o = ![b.val, 0, 0]) (n : ℕ) (hu : used c (24 + b.val) = true)
    (hlv : ∀ p ∈ (debts c).drop n, dlev c (4 + (24 + b.val)) < lv p.1 ()) (t : FVec F S512x1024 .f32) (k : Pg F) (Q : PUnit → sProp 𝕄) :
    iprop(recs m K ∗ ow c n ∗ Aw c (pr b) ∗ owns (c : Thread nD τ) a3 fullShare (up t))
      ⊢ iprop(((ow c n ∗ Dn c (pr b) ∗ owns (c : Thread nD τ) (nth M5 b) fullShare (landing m c b) ∗ owns (c : Thread nD τ) a3 fullShare (up (accB t (landing m c b)))) -∗ WP c k Q)
          -∗ WP c (take M5 cc0_scratch7 o h hw l hl (accStep a3 M5 o h k)) Q) := by
  iintro ⟨#HR, HO, HA, Ht⟩ Hk
  iapply (un_take m K c o h hw l hl b hb ho n hu hlv) $$ [HO HA]
  · isplitr; · iexact HR
    isplitl [HO]; · iexact HO
    iexact HA
  iintro ⟨HO, Hd, Hx⟩
  iapply (st_acc c a3 M5 o h t (landing m c b)) $$ [Ht Hx]
  · isplitl [Ht]; · iexact Ht
    iexact Hx
  iintro ⟨Ht, Hx⟩
  iapply Hk
  subst ho
  isplitl [HO]; · iexact HO
  isplitl [Hd]; · iexact Hd
  isplitl [Hx]; · iexact Hx
  iexact Ht

/-- The wait for one of this device's own transfers of a block. -/
theorem un_xs (j : Fin 1 → Nat) (hj : ∀ a, j a + S1.size a ≤ S8.size a) (i : Fin 8) (hi : j = ![i.val]) (hu : used c i.val = true)
    (src dst : Memref sig .tc .vmem S512x1024 .bf16) (h1 : src.view.WordExact) (h2 : dst.view.WordExact) (k : Pg F) (Q : PUnit → sProp 𝕄) :
    iprop(recs m K ∗ ow c 21 ∗ Aw c (xs i))
      ⊢ iprop(((ow c 21 ∗ Dn c (xs i) ∗ xsPay m c i) -∗ WP c k Q) -∗ WP c (waitStep (semAt cc0_scratch4 j hj) src dst h1 h2 k) Q) := by
  have h := st_wait m K c (xs i) 21 _ (sem_xs j hj i hi) hu (fun p hp => absurd hp List.not_mem_nil) src dst h1 h2 k Q
  rw [dpay_xs] at h
  exact h

/-- The wait for one of this device's own transfers of a partial result. -/
theorem un_ps (j : Fin 1 → Nat) (hj : ∀ a, j a + S1.size a ≤ S8.size a) (i : Fin 8) (hi : j = ![i.val]) (hu : used c (16 + i.val) = true)
    (src dst : Memref sig .tc .vmem S512x1024 .bf16) (h1 : src.view.WordExact) (h2 : dst.view.WordExact) (k : Pg F) (Q : PUnit → sProp 𝕄) :
    iprop(recs m K ∗ ow c 21 ∗ Aw c (ps i))
      ⊢ iprop(((ow c 21 ∗ Dn c (ps i) ∗ psPay c i) -∗ WP c k Q) -∗ WP c (waitStep (semAt cc0_scratch6 j hj) src dst h1 h2 k) Q) := by
  have h := st_wait m K c (ps i) 21 _ (sem_ps j hj i hi) hu (fun p hp => absurd hp List.not_mem_nil) src dst h1 h2 k Q
  rw [dpay_ps] at h
  exact h

/-- The device's own block is sent to one device, out of a share of its plane. -/
theorem un_own (d t : Dev nD) (hd : d = t) (j : Fin 1 → Nat) (hj : ∀ a, j a + S1.size a ≤ S8.size a) (i : Fin 8) (hi : j = ![i.val]) (n : ℕ)
    (hui : used c i.val = true) (hut : used t (8 + c.val) = true) (hD : D c n = D c (n + 1) + tallyAt (dc t (xr c)) () N) (q : PosShare TreeShare)
    (hp : xsPay m c i = owns (c : Thread nD τ) (nth M4 c) q (xb m c)) (hw : (plane M4 (k0_off3 c) (k0_off3_inb c)).view.WordExact) (k : Pg F) (Q : PUnit → sProp 𝕄) :
    iprop(recs m K ∗ ow c n ∗ Sd c (xs i) ∗ Tg t (xr c) (nth M4 c) ∗ owns (c : Thread nD τ) (nth M4 c) q (xb m c))
      ⊢ iprop(((ow c (n + 1) ∗ Aw c (xs i)) -∗ WP c k Q)
          -∗ WP c (forward M4 cc0_scratch4 cc0_scratch5 (k0_off3 c) (k0_off3_inb c) d j hj (k0_off2 c) (k0_off2_inb c) hw k) Q) := by
  subst hd
  have hpl : plane M4 (k0_off3 c) (k0_off3_inb c) = nth M4 c := plane_nth _ _ _ c (off3 c)
  exact st_send m K c d (xs i) (xr c) n _ _ (sem_xs j hj i hi) (sem_xr _ _ c (off2 c)) hui hut hD _ _ _ _ (nth M4 c) (nth M4 c) hpl hpl q (xb m c)
      (by rw [dpay_xs, hp]) (by rw [dpay_xr]) k Q

end Units

end Cert.KernelIdeal.Run

end
-- ==== Proof.Sections.lean ====
/- The kernel's text section by section: what each section takes and what it leaves. -/
module

public import proofs.«01_k».proof.Proof.Units

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

/-! ## The pieces' resources, bundled -/

/-- Before and after a block arrives, is sent on to `t`, and the share of the result on it goes to a plane. -/
def hopIn {n : Nat} (c g t : Dev nD) (i : Fin 8) (M : Memref sig .tc .vmem (Stk n) .bf16) (p : Fin n) : sProp 𝕄 :=
  iprop(Aw c (xr g) ∗ Sd c (xs i) ∗ Tg t (xr g) (nth M4 g) ∗ free c (nth M p))
def hopOut (c g : Dev nD) (i : Fin 8) : sProp 𝕄 :=
  iprop(Dn c (xr g) ∗ Aw c (xs i) ∗ owns (c : Thread nD τ) (nth M4 g) fullShare.right (xb m g))
/-- Before and after a block arrives and the share of the result on it is sent to `t`. -/
def lastIn {n : Nat} (c g t : Dev nD) (i : Fin 8) (b : Fin 7) (M : Memref sig .tc .vmem (Stk n) .bf16) (p : Fin n) : sProp 𝕄 :=
  iprop(Aw c (xr g) ∗ free c (nth M p) ∗ Sd c (ps i) ∗ Tg t (pr b) (nth M5 b))
def lastOut (c g : Dev nD) (i : Fin 8) : sProp 𝕄 :=
  iprop(Dn c (xr g) ∗ owns (c : Thread nD τ) (nth M4 g) fullShare (xb m g) ∗ Aw c (ps i))
/-- Before a partial result is sent to `t`. -/
def giveIn (c t : Dev nD) (i : Fin 8) (b : Fin 7) : sProp 𝕄 := iprop(Sd c (ps i) ∗ Tg t (pr b) (nth M5 b))
/-- Before and after a partial result arrives and its sum with another is sent to `t`. -/
def sumIn (c t : Dev nD) (b : Fin 7) (i : Fin 8) (b' : Fin 7) : sProp 𝕄 := iprop(Aw c (pr b) ∗ Sd c (ps i) ∗ Tg t (pr b') (nth M5 b'))
def sumOut (c : Dev nD) (b : Fin 7) (i : Fin 8) : sProp 𝕄 := iprop(Dn c (pr b) ∗ Aw c (ps i))

section Sections
variable (K : GSem nD τ sig → ℕ) (c : Dev nD) (a0 : Memref sig .tc .vmem S512x1024 .bf16) (a1 : Memref sig .tc .vmem S1024x3072 .bf16)
  (a2 : Memref sig .tc .vmem S1024x1024 .bf16) (a3 : Memref sig .tc .vmem S1x512x1024 .f32)
  (h4 : M4.IsWhole) (h5 : M5.IsWhole) (h6 : M6.IsWhole) (h7 : M7.IsWhole)

/-- The seven blocks of the others. -/
theorem sec_hops (k : Pg F) (Q : PUnit → sProp 𝕄) :
    iprop(recs m K ∗ ow c 10 ∗ Wt m c a1 a2
        ∗ (hopIn c (dx c 1) (dx c 3) 4 M7 0 ∗ hopIn c (dx c 3) (dx c 4) 5 M7 1 ∗ hopIn c (dx c 4) (dx c 1) 6 M7 2 ∗ hopIn c (dx c 7) (dx c 1) 7 M7 3)
        ∗ giveIn c (dx c 4) 7 6
        ∗ (lastIn c (dx c 2) (dx c 3) 2 5 M6 0 ∗ lastIn c (dx c 5) (dx c 1) 5 4 M6 1 ∗ lastIn c (dx c 6) (dx c 6) 6 3 M6 2))
      ⊢ iprop(((ow c 18 ∗ Wt m c a1 a2
            ∗ (hopOut m c (dx c 1) 4 ∗ hopOut m c (dx c 3) 5 ∗ hopOut m c (dx c 4) 6 ∗ hopOut m c (dx c 7) 7)
            ∗ (owns (c : Thread nD τ) (nth M7 0) fullShare (pt m c (dx c 1)) ∗ owns (c : Thread nD τ) (nth M7 1) fullShare (pt m c (dx c 3))
              ∗ owns (c : Thread nD τ) (nth M7 2) fullShare (pt m c (dx c 4)))
            ∗ Aw c (ps 7)
            ∗ (lastOut m c (dx c 2) 2 ∗ lastOut m c (dx c 5) 5 ∗ lastOut m c (dx c 6) 6)) -∗ WP c k Q)
          -∗ WP c (hopsText c a1 a2 M4 h4 M5 h5 M6 h6 M7 h7 cc0_scratch4 cc0_scratch5 cc0_scratch6 cc0_scratch7 k) Q) := by
  iintro ⟨#HR, HO, HW, ⟨H1, H3, H4, H7⟩, HG, ⟨H2, H5, H6⟩⟩ Hk
  unfold hopsText hopIn lastIn giveIn
  icases H1 with ⟨HA, HS, HT, Hf⟩
  iapply (un_hop m K c a1 a2 h4 M7 ![0, 0, 0] _ _ _ 0 rfl (dx c 1) rfl _ (dx c 3) (dev_11 c) _ _ 4 rfl 10
      (by revert c; decide +kernel) (by revert c; decide +kernel) (by revert c; decide +kernel) (by revert c; decide +kernel) rfl rfl) $$ [HO HA HS HT HW Hf]
  · isplitr; · iexact HR
    isplitl [HO]; · iexact HO
    isplitl [HA]; · iexact HA
    isplitl [HS]; · iexact HS
    isplitl [HT]; · iexact HT
    isplitl [HW]; · iexact HW
    iexact Hf
  iintro ⟨HO, HD1, HA1, HX1, HW, HP0⟩
  icases H3 with ⟨HA, HS, HT, Hf⟩
  iapply (un_hop m K c a1 a2 h4 M7 ![1, 0, 0] _ _ _ 2 rfl (dx c 3) rfl _ (dx c 4) (dev_12 c) _ _ 5 rfl 11
      (by revert c; decide +kernel) (by revert c; decide +kernel) (by revert c; decide +kernel) (by revert c; decide +kernel) rfl rfl) $$ [HO HA HS HT HW Hf]
  · isplitr; · iexact HR
    isplitl [HO]; · iexact HO
    isplitl [HA]; · iexact HA
    isplitl [HS]; · iexact HS
    isplitl [HT]; · iexact HT
    isplitl [HW]; · iexact HW
    iexact Hf
  iintro ⟨HO, HD3, HA3, HX3, HW, HP1⟩
  icases H4 with ⟨HA, HS, HT, Hf⟩
  iapply (un_hop m K c a1 a2 h4 M7 ![2, 0, 0] _ _ _ 3 rfl (dx c 4) rfl _ (dx c 1) (dev_13 c) _ _ 6 rfl 12
      (by revert c; decide +kernel) (by revert c; decide +kernel) (by revert c; decide +kernel) (by revert c; decide +kernel) rfl rfl) $$ [HO HA HS HT HW Hf]
  · isplitr; · iexact HR
    isplitl [HO]; · iexact HO
    isplitl [HA]; · iexact HA
    isplitl [HS]; · iexact HS
    isplitl [HT]; · iexact HT
    isplitl [HW]; · iexact HW
    iexact Hf
  iintro ⟨HO, HD4, HA4, HX4, HW, HP2⟩
  icases H7 with ⟨HA, HS, HT, Hf⟩
  iapply (un_hop m K c a1 a2 h4 M7 ![3, 0, 0] _ _ _ 6 rfl (dx c 7) rfl _ (dx c 1) (dev_14 c) _ _ 7 rfl 13
      (by revert c; decide +kernel) (by revert c; decide +kernel) (by revert c; decide +kernel) (by revert c; decide +kernel) rfl rfl) $$ [HO HA HS HT HW Hf]
  · isplitr; · iexact HR
    isplitl [HO]; · iexact HO
    isplitl [HA]; · iexact HA
    isplitl [HS]; · iexact HS
    isplitl [HT]; · iexact HT
    isplitl [HW]; · iexact HW
    iexact Hf
  iintro ⟨HO, HD7, HA7, HX7, HW, HP3⟩
  icases HG with ⟨HS, HT⟩
  iapply (un_give m K c M7 ![3, 0, 0] _ _ ![6, 0, 0] _ _ _ (dx c 4) (dev_15 c) _ _ 7 rfl _ _ 6 rfl rfl 14 (by revert c; decide +kernel) (by revert c; decide +kernel) rfl (pt m c (dx c 7))
      (congrArg₂ (pt m) (by revert c; decide +kernel) (by revert c; decide +kernel)) rfl) $$ [HO HS HT HP3]
  · isplitr; · iexact HR
    isplitl [HO]; · iexact HO
    isplitl [HS]; · iexact HS
    isplitl [HT]; · iexact HT
    iexact HP3
  iintro ⟨HO, HAp⟩
  icases H2 with ⟨HA, Hf, HS, HT⟩
  iapply (un_last m K c a1 a2 M6 ![0, 0, 0] _ _ _ ![5, 0, 0] _ _ _ (dx c 3) (dev_16 c) _ 1 rfl (dx c 2) rfl _ _ 2 rfl _ _ 5 rfl rfl 15
      (by revert c; decide +kernel) (by revert c; decide +kernel) (by revert c; decide +kernel) (by revert c; decide +kernel) rfl (congrArg₂ (pt m) (by revert c; decide +kernel) (by revert c; decide +kernel)) rfl _ _ _ _ _ (off4 c 1)) $$ [HO HA HW Hf HS HT]
  · isplitr; · iexact HR
    isplitl [HO]; · iexact HO
    isplitl [HA]; · iexact HA
    isplitl [HW]; · iexact HW
    isplitl [Hf]; · iexact Hf
    isplitl [HS]; · iexact HS
    iexact HT
  iintro ⟨HO, HD2, HX2, HW, HA2⟩
  icases H5 with ⟨HA, Hf, HS, HT⟩
  iapply (un_last m K c a1 a2 M6 ![1, 0, 0] _ _ _ ![4, 0, 0] _ _ _ (dx c 1) (dev_17 c) _ 4 rfl (dx c 5) rfl _ _ 5 rfl _ _ 4 rfl rfl 16
      (by revert c; decide +kernel) (by revert c; decide +kernel) (by revert c; decide +kernel) (by revert c; decide +kernel) rfl (congrArg₂ (pt m) (by revert c; decide +kernel) (by revert c; decide +kernel)) rfl _ _ _ _ _ (off4 c 4)) $$ [HO HA HW Hf HS HT]
  · isplitr; · iexact HR
    isplitl [HO]; · iexact HO
    isplitl [HA]; · iexact HA
    isplitl [HW]; · iexact HW
    isplitl [Hf]; · iexact Hf
    isplitl [HS]; · iexact HS
    iexact HT
  iintro ⟨HO, HD5, HX5, HW, HA5⟩
  icases H6 with ⟨HA, Hf, HS, HT⟩
  iapply (un_last m K c a1 a2 M6 ![2, 0, 0] _ _ _ ![3, 0, 0] _ _ _ (dx c 6) (dev_18 c) _ 5 rfl (dx c 6) rfl _ _ 6 rfl _ _ 3 rfl rfl 17
      (by revert c; decide +kernel) (by revert c; decide +kernel) (by revert c; decide +kernel) (by revert c; decide +kernel) rfl (congrArg₂ (pt m) (by revert c; decide +kernel) (by revert c; decide +kernel)) rfl _ _ _ _ _ (off4 c 5)) $$ [HO HA HW Hf HS HT]
  · isplitr; · iexact HR
    isplitl [HO]; · iexact HO
    isplitl [HA]; · iexact HA
    isplitl [HW]; · iexact HW
    isplitl [Hf]; · iexact Hf
    isplitl [HS]; · iexact HS
    iexact HT
  iintro ⟨HO, HD6, HX6, HW, HA6⟩
  iapply Hk
  unfold hopOut lastOut
  isplitl [HO]; · iexact HO
  isplitl [HW]; · iexact HW
  isplitl [HD1 HA1 HX1 HD3 HA3 HX3 HD4 HA4 HX4 HD7 HA7 HX7]
  · isplitl [HD1 HA1 HX1]
    · isplitl [HD1]; · iexact HD1
      isplitl [HA1]; · iexact HA1
      iexact HX1
    isplitl [HD3 HA3 HX3]
    · isplitl [HD3]; · iexact HD3
      isplitl [HA3]; · iexact HA3
      iexact HX3
    isplitl [HD4 HA4 HX4]
    · isplitl [HD4]; · iexact HD4
      isplitl [HA4]; · iexact HA4
      iexact HX4
    isplitl [HD7]; · iexact HD7
    isplitl [HA7]; · iexact HA7
    iexact HX7
  isplitl [HP0 HP1 HP2]
  · isplitl [HP0]; · iexact HP0
    isplitl [HP1]; · iexact HP1
    iexact HP2
  isplitl [HAp]; · iexact HAp
  isplitl [HD2 HX2 HA2]
  · isplitl [HD2]; · iexact HD2
    isplitl [HX2]; · iexact HX2
    iexact HA2
  isplitl [HD5 HX5 HA5]
  · isplitl [HD5]; · iexact HD5
    isplitl [HX5]; · iexact HX5
    iexact HA5
  isplitl [HD6]; · iexact HD6
  isplitl [HX6]; · iexact HX6
  iexact HA6

/-- The three pairwise sums. -/
theorem sec_sums (k : Pg F) (Q : PUnit → sProp 𝕄) :
    iprop(recs m K ∗ ow c 18
        ∗ (owns (c : Thread nD τ) (nth M7 0) fullShare (pt m c (dx c 1)) ∗ owns (c : Thread nD τ) (nth M7 1) fullShare (pt m c (dx c 3))
          ∗ owns (c : Thread nD τ) (nth M7 2) fullShare (pt m c (dx c 4)))
        ∗ sumIn c (dx c 3) 6 3 1 ∗ sumIn c (dx c 1) 5 1 0 ∗ sumIn c (dx c 4) 4 4 2)
      ⊢ iprop(((ow c 21
            ∗ (owns (c : Thread nD τ) (nth M7 0) fullShare (pt m c (dx c 1)) ∗ owns (c : Thread nD τ) (nth M7 1) fullShare (pt m c (dx c 3))
              ∗ owns (c : Thread nD τ) (nth M7 2) fullShare (pt m c (dx c 4)))
            ∗ sumOut c 6 3 ∗ sumOut c 5 1 ∗ sumOut c 4 4) -∗ WP c k Q)
          -∗ WP c (sumsText c M5 h5 M7 cc0_scratch6 cc0_scratch7 k) Q) := by
  iintro ⟨#HR, HO, ⟨HP0, HP1, HP2⟩, H6, H5, H4⟩ Hk
  unfold sumsText sumIn
  icases H6 with ⟨HA, HS, HT⟩
  iapply (un_sum m K c ![6, 0, 0] _ _ _ _ 6 rfl rfl 18 (by revert c; decide +kernel) (by revert c; decide +kernel) ![1, 0, 0] _ (pt m c (dx c 3)) _ ![1, 0, 0] _ _ _ (dx c 3) (dev_19 c)
      _ _ 3 rfl _ _ 1 rfl rfl (by revert c; decide +kernel) (by revert c; decide +kernel) rfl (congrArg₂ addB (congrArg₂ (pt m) (by revert c; decide +kernel) (by revert c; decide +kernel)) (congrArg₂ (pt m) (by revert c; decide +kernel) (by revert c; decide +kernel))) rfl) $$ [HO HA HP1 HS HT]
  · isplitr; · iexact HR
    isplitl [HO]; · iexact HO
    isplitl [HA]; · iexact HA
    isplitl [HP1]; · iexact HP1
    isplitl [HS]; · iexact HS
    iexact HT
  iintro ⟨HO, HD6, HP1, HA6⟩
  icases H5 with ⟨HA, HS, HT⟩
  iapply (un_sum m K c ![5, 0, 0] _ _ _ _ 5 rfl rfl 19 (by revert c; decide +kernel) (by revert c; decide +kernel) ![0, 0, 0] _ (pt m c (dx c 1)) _ ![0, 0, 0] _ _ _ (dx c 1) (dev_20 c)
      _ _ 1 rfl _ _ 0 rfl rfl (by revert c; decide +kernel) (by revert c; decide +kernel) rfl (congrArg₂ addB (congrArg₂ (pt m) (by revert c; decide +kernel) (by revert c; decide +kernel)) (congrArg₂ (pt m) (by revert c; decide +kernel) (by revert c; decide +kernel))) rfl) $$ [HO HA HP0 HS HT]
  · isplitr; · iexact HR
    isplitl [HO]; · iexact HO
    isplitl [HA]; · iexact HA
    isplitl [HP0]; · iexact HP0
    isplitl [HS]; · iexact HS
    iexact HT
  iintro ⟨HO, HD5, HP0, HA5⟩
  icases H4 with ⟨HA, HS, HT⟩
  iapply (un_sum m K c ![4, 0, 0] _ _ _ _ 4 rfl rfl 20 (by revert c; decide +kernel) (by revert c; decide +kernel) ![2, 0, 0] _ (pt m c (dx c 4)) _ ![2, 0, 0] _ _ _ (dx c 4) (dev_21 c)
      _ _ 4 rfl _ _ 2 rfl rfl (by revert c; decide +kernel) (by revert c; decide +kernel) rfl (congrArg₂ addB (congrArg₂ (pt m) (by revert c; decide +kernel) (by revert c; decide +kernel)) (congrArg₂ (pt m) (by revert c; decide +kernel) (by revert c; decide +kernel))) rfl) $$ [HO HA HP2 HS HT]
  · isplitr; · iexact HR
    isplitl [HO]; · iexact HO
    isplitl [HA]; · iexact HA
    isplitl [HP2]; · iexact HP2
    isplitl [HS]; · iexact HS
    iexact HT
  iintro ⟨HO, HD4, HP2, HA4⟩
  iapply Hk
  unfold sumOut
  isplitl [HO]; · iexact HO
  isplitl [HP0 HP1 HP2]
  · isplitl [HP0]; · iexact HP0
    isplitl [HP1]; · iexact HP1
    iexact HP2
  isplitl [HD6 HA6]
  · isplitl [HD6]; · iexact HD6
    iexact HA6
  isplitl [HD5 HA5]
  · isplitl [HD5]; · iexact HD5
    iexact HA5
  isplitl [HD4]; · iexact HD4
  iexact HA4

/-- The four arrivals added into the result. -/
theorem sec_totals (k : Pg F) (Q : PUnit → sProp 𝕄) :
    iprop(recs m K ∗ ow c 21 ∗ owns (c : Thread nD τ) a3 fullShare (up (own m c c)) ∗ Aw c (pr 1) ∗ Aw c (pr 0) ∗ Aw c (pr 3) ∗ Aw c (pr 2))
      ⊢ iprop(((ow c 21 ∗ owns (c : Thread nD τ) a3 fullShare (up (result m c))
            ∗ (Dn c (pr 1) ∗ Dn c (pr 0) ∗ Dn c (pr 3) ∗ Dn c (pr 2))
            ∗ (free c (nth M5 1) ∗ free c (nth M5 0) ∗ free c (nth M5 3) ∗ free c (nth M5 2))) -∗ WP c k Q)
          -∗ WP c (totalText a3 M5 h5 cc0_scratch7 k) Q) := by
  iintro ⟨#HR, HO, Ht, H1, H0, H3, H2⟩ Hk
  unfold totalText
  iapply (un_total m K c a3 ![1, 0, 0] _ _ _ _ 1 rfl rfl 21 (by revert c; decide +kernel) (fun p hp => absurd hp List.not_mem_nil) _) $$ [HO H1 Ht]
  · isplitr; · iexact HR
    isplitl [HO]; · iexact HO
    isplitl [H1]; · iexact H1
    iexact Ht
  iintro ⟨HO, HD1, HX1, Ht⟩
  iapply (un_total m K c a3 ![0, 0, 0] _ _ _ _ 0 rfl rfl 21 (by revert c; decide +kernel) (fun p hp => absurd hp List.not_mem_nil) _) $$ [HO H0 Ht]
  · isplitr; · iexact HR
    isplitl [HO]; · iexact HO
    isplitl [H0]; · iexact H0
    iexact Ht
  iintro ⟨HO, HD0, HX0, Ht⟩
  iapply (un_total m K c a3 ![3, 0, 0] _ _ _ _ 3 rfl rfl 21 (by revert c; decide +kernel) (fun p hp => absurd hp List.not_mem_nil) _) $$ [HO H3 Ht]
  · isplitr; · iexact HR
    isplitl [HO]; · iexact HO
    isplitl [H3]; · iexact H3
    iexact Ht
  iintro ⟨HO, HD3, HX3, Ht⟩
  iapply (un_total m K c a3 ![2, 0, 0] _ _ _ _ 2 rfl rfl 21 (by revert c; decide +kernel) (fun p hp => absurd hp List.not_mem_nil) _) $$ [HO H2 Ht]
  · isplitr; · iexact HR
    isplitl [HO]; · iexact HO
    isplitl [H2]; · iexact H2
    iexact Ht
  iintro ⟨HO, HD2, HX2, Ht⟩
  iapply Hk
  unfold free
  isplitl [HO]; · iexact HO
  isplitl [Ht]; · iexact Ht
  isplitl [HD1 HD0 HD3 HD2]
  · isplitl [HD1]; · iexact HD1
    isplitl [HD0]; · iexact HD0
    isplitl [HD3]; · iexact HD3
    iexact HD2
  isplitl [HX1]; · iexists _; iexact HX1
  isplitl [HX0]; · iexists _; iexact HX0
  isplitl [HX3]; · iexists _; iexact HX3
  iexists _; iexact HX2

/-- The waits for the device's own transfers. -/
theorem sec_drain (k : Pg F) (Q : PUnit → sProp 𝕄) :
    iprop(recs m K ∗ ow c 21 ∗ (Aw c (xs 1) ∗ Aw c (xs 2) ∗ Aw c (xs 3) ∗ Aw c (xs 4) ∗ Aw c (xs 5) ∗ Aw c (xs 6) ∗ Aw c (xs 7))
        ∗ (Aw c (ps 7) ∗ Aw c (ps 2) ∗ Aw c (ps 5) ∗ Aw c (ps 6) ∗ Aw c (ps 3) ∗ Aw c (ps 1) ∗ Aw c (ps 4)))
      ⊢ iprop(((ow c 21
            ∗ (Dn c (xs 1) ∗ Dn c (xs 2) ∗ Dn c (xs 3) ∗ Dn c (xs 4) ∗ Dn c (xs 5) ∗ Dn c (xs 6) ∗ Dn c (xs 7))
            ∗ (Dn c (ps 7) ∗ Dn c (ps 2) ∗ Dn c (ps 5) ∗ Dn c (ps 6) ∗ Dn c (ps 3) ∗ Dn c (ps 1) ∗ Dn c (ps 4))
            ∗ (xsPay m c 1 ∗ xsPay m c 2 ∗ xsPay m c 3 ∗ xsPay m c 4 ∗ xsPay m c 5 ∗ xsPay m c 6 ∗ xsPay m c 7)
            ∗ (psPay c 7 ∗ psPay c 2 ∗ psPay c 5 ∗ psPay c 6 ∗ psPay c 3 ∗ psPay c 1 ∗ psPay c 4)) -∗ WP c k Q)
          -∗ WP c (drainText c M4 h4 M5 h5 M6 h6 M7 h7 cc0_scratch4 cc0_scratch6 k) Q) := by
  iintro ⟨#HR, HO, ⟨Hx1, Hx2, Hx3, Hx4, Hx5, Hx6, Hx7⟩, ⟨Hp7, Hp2, Hp5, Hp6, Hp3, Hp1, Hp4⟩⟩ Hk
  unfold drainText
  iapply (un_xs m K c _ _ 1 rfl (by revert c; decide +kernel) _ _ _ _) $$ [HO Hx1]
  · isplitr; · iexact HR
    isplitl [HO]; · iexact HO
    iexact Hx1
  iintro ⟨HO, HDx1, HQx1⟩
  iapply (un_xs m K c _ _ 2 rfl (by revert c; decide +kernel) _ _ _ _) $$ [HO Hx2]
  · isplitr; · iexact HR
    isplitl [HO]; · iexact HO
    iexact Hx2
  iintro ⟨HO, HDx2, HQx2⟩
  iapply (un_xs m K c _ _ 3 rfl (by revert c; decide +kernel) _ _ _ _) $$ [HO Hx3]
  · isplitr; · iexact HR
    isplitl [HO]; · iexact HO
    iexact Hx3
  iintro ⟨HO, HDx3, HQx3⟩
  iapply (un_xs m K c _ _ 4 rfl (by revert c; decide +kernel) _ _ _ _) $$ [HO Hx4]
  · isplitr; · iexact HR
    isplitl [HO]; · iexact HO
    iexact Hx4
  iintro ⟨HO, HDx4, HQx4⟩
  iapply (un_xs m K c _ _ 5 rfl (by revert c; decide +kernel) _ _ _ _) $$ [HO Hx5]
  · isplitr; · iexact HR
    isplitl [HO]; · iexact HO
    iexact Hx5
  iintro ⟨HO, HDx5, HQx5⟩
  iapply (un_xs m K c _ _ 6 rfl (by revert c; decide +kernel) _ _ _ _) $$ [HO Hx6]
  · isplitr; · iexact HR
    isplitl [HO]; · iexact HO
    iexact Hx6
  iintro ⟨HO, HDx6, HQx6⟩
  iapply (un_xs m K c _ _ 7 rfl (by revert c; decide +kernel) _ _ _ _) $$ [HO Hx7]
  · isplitr; · iexact HR
    isplitl [HO]; · iexact HO
    iexact Hx7
  iintro ⟨HO, HDx7, HQx7⟩
  iapply (un_ps m K c _ _ 7 rfl (by revert c; decide +kernel) _ _ _ _) $$ [HO Hp7]
  · isplitr; · iexact HR
    isplitl [HO]; · iexact HO
    iexact Hp7
  iintro ⟨HO, HDp7, HQp7⟩
  iapply (un_ps m K c _ _ 2 rfl (by revert c; decide +kernel) _ _ _ _) $$ [HO Hp2]
  · isplitr; · iexact HR
    isplitl [HO]; · iexact HO
    iexact Hp2
  iintro ⟨HO, HDp2, HQp2⟩
  iapply (un_ps m K c _ _ 5 rfl (by revert c; decide +kernel) _ _ _ _) $$ [HO Hp5]
  · isplitr; · iexact HR
    isplitl [HO]; · iexact HO
    iexact Hp5
  iintro ⟨HO, HDp5, HQp5⟩
  iapply (un_ps m K c _ _ 6 rfl (by revert c; decide +kernel) _ _ _ _) $$ [HO Hp6]
  · isplitr; · iexact HR
    isplitl [HO]; · iexact HO
    iexact Hp6
  iintro ⟨HO, HDp6, HQp6⟩
  iapply (un_ps m K c _ _ 3 rfl (by revert c; decide +kernel) _ _ _ _) $$ [HO Hp3]
  · isplitr; · iexact HR
    isplitl [HO]; · iexact HO
    iexact Hp3
  iintro ⟨HO, HDp3, HQp3⟩
  iapply (un_ps m K c _ _ 1 rfl (by revert c; decide +kernel) _ _ _ _) $$ [HO Hp1]
  · isplitr; · iexact HR
    isplitl [HO]; · iexact HO
    iexact Hp1
  iintro ⟨HO, HDp1, HQp1⟩
  iapply (un_ps m K c _ _ 4 rfl (by revert c; decide +kernel) _ _ _ _) $$ [HO Hp4]
  · isplitr; · iexact HR
    isplitl [HO]; · iexact HO
    iexact Hp4
  iintro ⟨HO, HDp4, HQp4⟩
  iapply Hk
  isplitl [HO]; · iexact HO
  isplitl [HDx1 HDx2 HDx3 HDx4 HDx5 HDx6 HDx7]
  · isplitl [HDx1]; · iexact HDx1
    isplitl [HDx2]; · iexact HDx2
    isplitl [HDx3]; · iexact HDx3
    isplitl [HDx4]; · iexact HDx4
    isplitl [HDx5]; · iexact HDx5
    isplitl [HDx6]; · iexact HDx6
    iexact HDx7
  isplitl [HDp7 HDp2 HDp5 HDp6 HDp3 HDp1 HDp4]
  · isplitl [HDp7]; · iexact HDp7
    isplitl [HDp2]; · iexact HDp2
    isplitl [HDp5]; · iexact HDp5
    isplitl [HDp6]; · iexact HDp6
    isplitl [HDp3]; · iexact HDp3
    isplitl [HDp1]; · iexact HDp1
    iexact HDp4
  isplitl [HQx1 HQx2 HQx3 HQx4 HQx5 HQx6 HQx7]
  · isplitl [HQx1]; · iexact HQx1
    isplitl [HQx2]; · iexact HQx2
    isplitl [HQx3]; · iexact HQx3
    isplitl [HQx4]; · iexact HQx4
    isplitl [HQx5]; · iexact HQx5
    isplitl [HQx6]; · iexact HQx6
    iexact HQx7
  isplitl [HQp7]; · iexact HQp7
  isplitl [HQp2]; · iexact HQp2
  isplitl [HQp5]; · iexact HQp5
  isplitl [HQp6]; · iexact HQp6
  isplitl [HQp3]; · iexact HQp3
  isplitl [HQp1]; · iexact HQp1
  iexact HQp4

end Sections

end Cert.KernelIdeal.Run

end
-- ==== Proof.Barrier.lean ====
/- Stacks of planes taken apart and put together, and the barrier. -/
module

public import proofs.«01_k».proof.Proof.Sections

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

/-! ## A stack of planes, whole and plane by plane -/

section Planes
variable {n : Nat} (M : Memref sig .tc .vmem (Stk n) .bf16)

theorem nth_set (i : Fin n) : (nth M i).view.set = (planeR n ![i.val, 0, 0] (inStk i)).set.map M.view.emb := by
  refine (View.set_reshape _ _).trans ?_
  exact View.set_slice _ _

theorem nth_disjoint (i j : Fin n) (h : i ≠ j) : Disjoint (nth M i).view.set (nth M j).view.set := by
  rw [nth_set, nth_set, Finset.disjoint_map, Finset.disjoint_left]
  intro x hx hy
  have h1 := Rect.mem_set_unit.mp hx 0
  have h2 := Rect.mem_set_unit.mp hy 0
  have e1 : i.val ≤ (x 0).val ∧ (x 0).val < i.val + 1 := h1
  have e2 : j.val ≤ (x 0).val ∧ (x 0).val < j.val + 1 := h2
  exact h (Fin.ext (by omega))

theorem nth_cover : (Finset.univ : Finset (Fin n)).biUnion (fun i => (nth M i).view.set) = M.view.set := by
  ext y
  rw [Finset.mem_biUnion]
  constructor
  · rintro ⟨i, -, h⟩
    rw [nth_set] at h
    obtain ⟨x, -, rfl⟩ := Finset.mem_map.mp h
    exact Finset.mem_map_of_mem _ (Finset.mem_univ x)
  · intro h
    obtain ⟨x, -, rfl⟩ := Finset.mem_map.mp h
    refine ⟨x 0, Finset.mem_univ _, ?_⟩
    refine (Finset.ext_iff.mp (nth_set M (x 0)) _).mpr (Finset.mem_map_of_mem _ (Rect.mem_set_unit.mpr fun a => ?_))
    match a with
    | ⟨0, _⟩ => exact ⟨Nat.le_refl _, Nat.lt_succ_self _⟩
    | ⟨1, _⟩ => exact ⟨Nat.zero_le _, (Nat.zero_add 512).symm ▸ (x 1).isLt⟩
    | ⟨2, _⟩ => exact ⟨Nat.zero_le _, (Nat.zero_add 1024).symm ▸ (x 2).isLt⟩
    | ⟨k + 3, h⟩ => exact absurd h (Nat.not_lt.2 (Nat.le_add_left _ _))

/-- A plane at known contents is a free plane. -/
theorem free_intro (c : Dev nD) (P : Memref sig .tc .vmem S512x1024 .bf16) (v : Vec F S512x1024 .bf16) : (owns (c : Thread nD τ) P fullShare v : sProp 𝕄) ⊢ free c P := by
  unfold free; iintro H; iexists v; iexact H

/-- The elements under a free plane. -/
theorem free_buf (c : Dev nD) (P : Memref sig .tc .vmem S512x1024 .bf16) :
    (free c P : sProp 𝕄) ⊢ iprop(∃ f : Buf (Elt F) (P.view.loc (c : Thread nD τ)), P.view.loc (c : Thread nD τ) ↦[P.view.set]{fullShare} f) := by
  unfold free owns
  iintro ⟨%v, %f, -, H⟩
  iexists f; iexact H

theorem planes_split (c : Dev nD) (f : Buf (Elt F) (M.view.loc (c : Thread nD τ))) :
    (M.view.loc (c : Thread nD τ) ↦[M.view.set]{fullShare} f : sProp 𝕄) ⊢ bigSep Finset.univ fun i : Fin n => free c (nth M i) := by
  rw [Ring.pointsTo_sub_blocks (fun i : Fin n => (nth M i).view.set) (fun i j h => nth_disjoint M i j h) M.view.set (nth_cover M) f]
  exact bigSep_mono fun i _ => BI.Entails.trans (owns_intro (c : Thread nD τ) (nth M i) fullShare f) (free_intro c (nth M i) _)

theorem planes_join (c : Dev nD) (f₀ : Buf (Elt F) (M.view.loc (c : Thread nD τ))) :
    (bigSep Finset.univ fun i : Fin n => free c (nth M i)) ⊢ (iprop(∃ g, M.view.loc (c : Thread nD τ) ↦[M.view.set]{fullShare} g) : sProp 𝕄) :=
  BI.Entails.trans (bigSep_mono fun i _ => free_buf c (nth M i))
    (Ring.pointsTo_sub_blocks_join_exists (ℓ := M.view.loc (c : Thread nD τ)) (fun i : Fin n => (nth M i).view.set) (fun i j h => nth_disjoint M i j h) M.view.set (nth_cover M) f₀)

end Planes

/-! ## Families listed by distance -/

section Lists
variable (c : Dev nD)

/-- All devices: `c` first, the others by mask. -/
theorem devs_list (Φ : Dev nD → sProp 𝕄) :
    bigSep Finset.univ Φ = iprop(Φ c ∗ Φ (dx c 1) ∗ Φ (dx c 2) ∗ Φ (dx c 3) ∗ Φ (dx c 4) ∗ Φ (dx c 5) ∗ Φ (dx c 6) ∗ Φ (dx c 7)) :=
  BI.bigSep_eq_bigSepL_of_eq [c, dx c 1, dx c 2, dx c 3, dx c 4, dx c 5, dx c 6, dx c 7] (by revert c; decide +kernel) (by revert c; decide +kernel) Φ
/-- All other devices, by mask. -/
theorem others_list (Φ : Dev nD → sProp 𝕄) :
    bigSep (Finset.univ.erase c) Φ = iprop(Φ (dx c 1) ∗ Φ (dx c 2) ∗ Φ (dx c 3) ∗ Φ (dx c 4) ∗ Φ (dx c 5) ∗ Φ (dx c 6) ∗ Φ (dx c 7)) :=
  BI.bigSep_eq_bigSepL_of_eq [dx c 1, dx c 2, dx c 3, dx c 4, dx c 5, dx c 6, dx c 7] (by revert c; decide +kernel) (by revert c; decide +kernel) Φ
/-- All other devices, in the order of the signals. -/
theorem others_rot (Φ : Dev nD → sProp 𝕄) :
    bigSep (Finset.univ.erase c) Φ = iprop(Φ (rot c 1) ∗ Φ (rot c 2) ∗ Φ (rot c 3) ∗ Φ (rot c 4) ∗ Φ (rot c 5) ∗ Φ (rot c 6) ∗ Φ (rot c 7)) :=
  BI.bigSep_eq_bigSepL_of_eq [rot c 1, rot c 2, rot c 3, rot c 4, rot c 5, rot c 6, rot c 7] (by revert c; decide +kernel) (by revert c; decide +kernel) Φ
/-- The DMA semaphores, by what they are for. -/
theorem cells_list (Φ : Fin 31 → sProp 𝕄) :
    bigSep Finset.univ Φ = iprop(Φ (xs 0) ∗ Φ (xs 1) ∗ Φ (xs 2) ∗ Φ (xs 3) ∗ Φ (xs 4) ∗ Φ (xs 5) ∗ Φ (xs 6) ∗ Φ (xs 7) ∗ Φ (xr c) ∗ Φ (xr (dx c 1)) ∗ Φ (xr (dx c 2)) ∗ Φ (xr (dx c 3)) ∗ Φ (xr (dx c 4)) ∗ Φ (xr (dx c 5)) ∗ Φ (xr (dx c 6)) ∗ Φ (xr (dx c 7)) ∗ Φ (ps 0) ∗ Φ (ps 1) ∗ Φ (ps 2) ∗ Φ (ps 3) ∗ Φ (ps 4) ∗ Φ (ps 5) ∗ Φ (ps 6) ∗ Φ (ps 7) ∗ Φ (pr 0) ∗ Φ (pr 1) ∗ Φ (pr 2) ∗ Φ (pr 3) ∗ Φ (pr 4) ∗ Φ (pr 5) ∗ Φ (pr 6)) :=
  BI.bigSep_eq_bigSepL_of_eq [xs 0, xs 1, xs 2, xs 3, xs 4, xs 5, xs 6, xs 7, xr c, xr (dx c 1), xr (dx c 2), xr (dx c 3), xr (dx c 4), xr (dx c 5), xr (dx c 6), xr (dx c 7), ps 0, ps 1, ps 2, ps 3, ps 4, ps 5, ps 6, ps 7, pr 0, pr 1, pr 2, pr 3, pr 4, pr 5, pr 6] (by revert c; decide +kernel) (by revert c; decide +kernel) Φ
theorem fin3_list (Φ : Fin 3 → sProp 𝕄) : bigSep Finset.univ Φ = iprop(Φ 0 ∗ Φ 1 ∗ Φ 2) :=
  BI.bigSep_eq_bigSepL_of_eq [0, 1, 2] (by decide) (by decide) Φ
theorem fin4_list (Φ : Fin 4 → sProp 𝕄) : bigSep Finset.univ Φ = iprop(Φ 0 ∗ Φ 1 ∗ Φ 2 ∗ Φ 3) :=
  BI.bigSep_eq_bigSepL_of_eq [0, 1, 2, 3] (by decide) (by decide) Φ
theorem fin7_list (Φ : Fin 7 → sProp 𝕄) : bigSep Finset.univ Φ = iprop(Φ 0 ∗ Φ 1 ∗ Φ 2 ∗ Φ 3 ∗ Φ 4 ∗ Φ 5 ∗ Φ 6) :=
  BI.bigSep_eq_bigSepL_of_eq [0, 1, 2, 3, 4, 5, 6] (by decide) (by decide) Φ
end Lists

/-! ## The barrier -/

section Barrier
variable (K : GSem nD τ sig → ℕ) (c : Dev nD)

/-- One signal, to a device named by its distance. -/
theorem un_sig (d t : Dev nD) (hd : d = t) (n : ℕ) (hne : c ≠ t) (hD : D c n = D c (n + 1) + tallyAt (barCell t) () 1)
    (k : Pg F) (Q : PUnit → sProp 𝕄) :
    iprop(recs m K ∗ ow c n ∗ dutyTok ER (barCell t) 0 c ∗ barPay c (mask c t)) ⊢ iprop((ow c (n + 1) -∗ WP c k Q) -∗ WP c (sigStep d k) Q) := by
  subst hd; exact st_sig m K c d n hne hD k Q

/-- The tokens of the signals. -/
def barToks (c : Dev nD) : sProp 𝕄 :=
  iprop(dutyTok ER (barCell (rot c 1)) 0 c ∗ dutyTok ER (barCell (rot c 2)) 0 c ∗ dutyTok ER (barCell (rot c 3)) 0 c ∗ dutyTok ER (barCell (rot c 4)) 0 c ∗ dutyTok ER (barCell (rot c 5)) 0 c ∗ dutyTok ER (barCell (rot c 6)) 0 c ∗ dutyTok ER (barCell (rot c 7)) 0 c)

/-- What the other devices hand over at the barrier. -/
def barOut (c : Dev nD) : sProp 𝕄 := iprop(barPay (dx c 1) 1 ∗ barPay (dx c 3) 3 ∗ barPay (dx c 4) 4 ∗ barPay (dx c 6) 6)

/-- The barrier. -/
theorem sec_barrier (k : Pg F) (Q : PUnit → sProp 𝕄) :
    iprop(recs m K ∗ ow c 0 ∗ barToks c ∗ (bigSep (Finset.univ.erase c) fun d => barPay c (mask c d)) ∗ atPos ER (barCell c) 0 ∅ 0 ∗ cred (tallyAt (barCell c) () 7))
      ⊢ iprop(((ow c 7 ∗ atPos ER (barCell c) 1 ∅ 0 ∗ barOut c) -∗ WP c k Q) -∗ WP c (barrierText c k) Q) := by
  rw [others_rot c fun d => (barPay c (mask c d) : sProp 𝕄)]
  unfold barToks barrierText
  iintro ⟨#HR, HO, ⟨HT1, HT2, HT3, HT4, HT5, HT6, HT7⟩, ⟨HP1, HP2, HP3, HP4, HP5, HP6, HP7⟩, Ha, Hc⟩ Hk
  iapply (un_sig m K c _ (rot c 1) (dev_1 c) 0 (by revert c; decide +kernel) rfl) $$ [HO HT1 HP1]
  · isplitr; · iexact HR
    isplitl [HO]; · iexact HO
    isplitl [HT1]; · iexact HT1
    iexact HP1
  iintro HO
  iapply (un_sig m K c _ (rot c 2) (dev_2 c) 1 (by revert c; decide +kernel) rfl) $$ [HO HT2 HP2]
  · isplitr; · iexact HR
    isplitl [HO]; · iexact HO
    isplitl [HT2]; · iexact HT2
    iexact HP2
  iintro HO
  iapply (un_sig m K c _ (rot c 3) (dev_3 c) 2 (by revert c; decide +kernel) rfl) $$ [HO HT3 HP3]
  · isplitr; · iexact HR
    isplitl [HO]; · iexact HO
    isplitl [HT3]; · iexact HT3
    iexact HP3
  iintro HO
  iapply (un_sig m K c _ (rot c 4) (dev_4 c) 3 (by revert c; decide +kernel) rfl) $$ [HO HT4 HP4]
  · isplitr; · iexact HR
    isplitl [HO]; · iexact HO
    isplitl [HT4]; · iexact HT4
    iexact HP4
  iintro HO
  iapply (un_sig m K c _ (rot c 5) (dev_5 c) 4 (by revert c; decide +kernel) rfl) $$ [HO HT5 HP5]
  · isplitr; · iexact HR
    isplitl [HO]; · iexact HO
    isplitl [HT5]; · iexact HT5
    iexact HP5
  iintro HO
  iapply (un_sig m K c _ (rot c 6) (dev_6 c) 5 (by revert c; decide +kernel) rfl) $$ [HO HT6 HP6]
  · isplitr; · iexact HR
    isplitl [HO]; · iexact HO
    isplitl [HT6]; · iexact HT6
    iexact HP6
  iintro HO
  iapply (un_sig m K c _ (rot c 7) (dev_7 c) 6 (by revert c; decide +kernel) rfl) $$ [HO HT7 HP7]
  · isplitr; · iexact HR
    isplitl [HO]; · iexact HO
    isplitl [HT7]; · iexact HT7
    iexact HP7
  iintro HO
  iapply (st_bar m K c 7 (by revert c; decide +kernel)) $$ [HO Ha Hc]
  · isplitr; · iexact HR
    isplitl [HO]; · iexact HO
    isplitl [Ha]; · iexact Ha
    iexact Hc
  iintro ⟨HO, Ha, HP⟩
  iapply Hk
  isplitl [HO]; · iexact HO
  isplitl [Ha]; · iexact Ha
  ihave HP' := (Entails.of_eq (others_list c fun d => (barPay d (mask d c) : sProp 𝕄))) $$ HP
  icases HP' with ⟨H1, -, H3, H4, -, H6, -⟩
  unfold barOut
  isplitl [H1]; · iapply (Entails.of_eq (congrArg (barPay (F := F) (dx c 1)) (show mask (dx c 1) c = 1 by revert c; decide +kernel))) $$ H1
  isplitl [H3]; · iapply (Entails.of_eq (congrArg (barPay (F := F) (dx c 3)) (show mask (dx c 3) c = 3 by revert c; decide +kernel))) $$ H3
  isplitl [H4]; · iapply (Entails.of_eq (congrArg (barPay (F := F) (dx c 4)) (show mask (dx c 4) c = 4 by revert c; decide +kernel))) $$ H4
  iapply (Entails.of_eq (congrArg (barPay (F := F) (dx c 6)) (show mask (dx c 6) c = 6 by revert c; decide +kernel))) $$ H6

/-- The payloads of the barrier, spelt out. -/
theorem barPay_1 : (barPay c 1 : sProp 𝕄) = iprop(open4 c (dx c 1) ∗ open4 c (dx c 5) ∗ open4 c (dx c 6) ∗ open5 c 4 ∗ open5 c 0) := rfl
theorem barPay_3 : (barPay c 3 : sProp 𝕄) = iprop(open4 c (dx c 3) ∗ open4 c (dx c 2) ∗ open5 c 5 ∗ open5 c 1) := rfl
theorem barPay_4 : (barPay c 4 : sProp 𝕄) = iprop(open4 c (dx c 4) ∗ open4 c (dx c 7) ∗ open5 c 6 ∗ open5 c 2) := rfl
theorem barPay_6 : (barPay c 6 : sProp 𝕄) = open5 c 3 := rfl
theorem barPay_2 : (barPay c 2 : sProp 𝕄) = iprop(emp) := rfl
theorem barPay_5 : (barPay c 5 : sProp 𝕄) = iprop(emp) := rfl
theorem barPay_7 : (barPay c 7 : sProp 𝕄) = iprop(emp) := rfl

/-- What the device hands over at the barrier, out of its planes. -/
theorem gives_all :
    iprop((bigSep Finset.univ fun i : Fin 31 => reached ER (dc c i) 0)
        ∗ (free c (nth M4 (dx c 1)) ∗ free c (nth M4 (dx c 2)) ∗ free c (nth M4 (dx c 3)) ∗ free c (nth M4 (dx c 4)) ∗ free c (nth M4 (dx c 5)) ∗ free c (nth M4 (dx c 6)) ∗ free c (nth M4 (dx c 7)))
        ∗ (free c (nth M5 0) ∗ free c (nth M5 1) ∗ free c (nth M5 2) ∗ free c (nth M5 3) ∗ free c (nth M5 4) ∗ free c (nth M5 5) ∗ free c (nth M5 6)))
      ⊢ (bigSep (Finset.univ.erase c) fun d => barPay c (mask c d) : sProp 𝕄) := by
  rw [others_list c fun d => (barPay c (mask c d) : sProp 𝕄)]
  rw [show mask c (dx c 1) = 1 by revert c; decide +kernel]
  rw [show mask c (dx c 2) = 2 by revert c; decide +kernel]
  rw [show mask c (dx c 3) = 3 by revert c; decide +kernel]
  rw [show mask c (dx c 4) = 4 by revert c; decide +kernel]
  rw [show mask c (dx c 5) = 5 by revert c; decide +kernel]
  rw [show mask c (dx c 6) = 6 by revert c; decide +kernel]
  rw [show mask c (dx c 7) = 7 by revert c; decide +kernel]
  iintro ⟨#Hr, ⟨G1, G2, G3, G4, G5, G6, G7⟩, ⟨P0, P1, P2, P3, P4, P5, P6⟩⟩
  rw [barPay_1, barPay_2, barPay_3, barPay_4, barPay_5, barPay_6, barPay_7]
  unfold open4 open5
  isplitl [G1 G5 G6 P4 P0]
  · isplitl [G1]
    · isplitl [G1]; · iexact G1
      iapply (all_at (fun i : Fin 31 => (reached ER (dc c i) 0 : sProp 𝕄)) (xr (dx c 1))); iexact Hr
    isplitl [G5]
    · isplitl [G5]; · iexact G5
      iapply (all_at (fun i : Fin 31 => (reached ER (dc c i) 0 : sProp 𝕄)) (xr (dx c 5))); iexact Hr
    isplitl [G6]
    · isplitl [G6]; · iexact G6
      iapply (all_at (fun i : Fin 31 => (reached ER (dc c i) 0 : sProp 𝕄)) (xr (dx c 6))); iexact Hr
    isplitl [P4]
    · isplitl [P4]; · iexact P4
      iapply (all_at (fun i : Fin 31 => (reached ER (dc c i) 0 : sProp 𝕄)) (pr 4)); iexact Hr
    isplitl [P0]; · iexact P0
    iapply (all_at (fun i : Fin 31 => (reached ER (dc c i) 0 : sProp 𝕄)) (pr 0)); iexact Hr
  isplitr; · iempintro
  isplitl [G3 G2 P5 P1]
  · isplitl [G3]
    · isplitl [G3]; · iexact G3
      iapply (all_at (fun i : Fin 31 => (reached ER (dc c i) 0 : sProp 𝕄)) (xr (dx c 3))); iexact Hr
    isplitl [G2]
    · isplitl [G2]; · iexact G2
      iapply (all_at (fun i : Fin 31 => (reached ER (dc c i) 0 : sProp 𝕄)) (xr (dx c 2))); iexact Hr
    isplitl [P5]
    · isplitl [P5]; · iexact P5
      iapply (all_at (fun i : Fin 31 => (reached ER (dc c i) 0 : sProp 𝕄)) (pr 5)); iexact Hr
    isplitl [P1]; · iexact P1
    iapply (all_at (fun i : Fin 31 => (reached ER (dc c i) 0 : sProp 𝕄)) (pr 1)); iexact Hr
  isplitl [G4 G7 P6 P2]
  · isplitl [G4]
    · isplitl [G4]; · iexact G4
      iapply (all_at (fun i : Fin 31 => (reached ER (dc c i) 0 : sProp 𝕄)) (xr (dx c 4))); iexact Hr
    isplitl [G7]
    · isplitl [G7]; · iexact G7
      iapply (all_at (fun i : Fin 31 => (reached ER (dc c i) 0 : sProp 𝕄)) (xr (dx c 7))); iexact Hr
    isplitl [P6]
    · isplitl [P6]; · iexact P6
      iapply (all_at (fun i : Fin 31 => (reached ER (dc c i) 0 : sProp 𝕄)) (pr 6)); iexact Hr
    isplitl [P2]; · iexact P2
    iapply (all_at (fun i : Fin 31 => (reached ER (dc c i) 0 : sProp 𝕄)) (pr 2)); iexact Hr
  isplitr; · iempintro
  isplitl [P3]
  · isplitl [P3]; · iexact P3
    iapply (all_at (fun i : Fin 31 => (reached ER (dc c i) 0 : sProp 𝕄)) (pr 3)); iexact Hr
  iempintro

end Barrier

end Cert.KernelIdeal.Run

end
-- ==== Proof.Body.lean ====
/- The whole text of one device. -/
module

public import proofs.«01_k».proof.Proof.Barrier

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

/-! ## Small joins -/

theorem join_two (c : Dev nD) (P : Memref sig .tc .vmem S512x1024 .bf16) (X : Vec F S512x1024 .bf16) :
    iprop(owns (c : Thread nD τ) P fullShare.left X ∗ owns (c : Thread nD τ) P fullShare.right X) ⊢ (free c P : sProp 𝕄) :=
  BI.Entails.trans (owns_halves (c : Thread nD τ) P fullShare X).2 (free_intro c P X)

theorem join_four (c : Dev nD) (P : Memref sig .tc .vmem S512x1024 .bf16) (X : Vec F S512x1024 .bf16) :
    iprop((owns (c : Thread nD τ) P fullShare.left.left X ∗ owns (c : Thread nD τ) P fullShare.left.right X)
      ∗ (owns (c : Thread nD τ) P fullShare.right.left X ∗ owns (c : Thread nD τ) P fullShare.right.right X)) ⊢ (free c P : sProp 𝕄) :=
  BI.Entails.trans (BI.sep_mono (owns_halves (c : Thread nD τ) P fullShare.left X).2 (owns_halves (c : Thread nD τ) P fullShare.right X).2)
    (join_two c P X)

theorem cut_four (c : Dev nD) (P : Memref sig .tc .vmem S512x1024 .bf16) (X : Vec F S512x1024 .bf16) :
    (owns (c : Thread nD τ) P fullShare X : sProp 𝕄)
      ⊢ iprop((owns (c : Thread nD τ) P fullShare.left.left X ∗ owns (c : Thread nD τ) P fullShare.left.right X)
      ∗ (owns (c : Thread nD τ) P fullShare.right.left X ∗ owns (c : Thread nD τ) P fullShare.right.right X)) :=
  BI.Entails.trans (owns_halves (c : Thread nD τ) P fullShare X).1
    (BI.sep_mono (owns_halves (c : Thread nD τ) P fullShare.left X).1 (owns_halves (c : Thread nD τ) P fullShare.right X).1)

/-! ## What the departures give back -/

theorem xsPay_1 (c : Dev nD) : (xsPay m c 1 : sProp 𝕄) ⊢ owns (c : Thread nD τ) (nth M4 c) fullShare.left.left (xb m c) := BI.Entails.refl _
theorem xsPay_2 (c : Dev nD) : (xsPay m c 2 : sProp 𝕄) ⊢ owns (c : Thread nD τ) (nth M4 c) fullShare.left.right (xb m c) := BI.Entails.refl _
theorem xsPay_3 (c : Dev nD) : (xsPay m c 3 : sProp 𝕄) ⊢ owns (c : Thread nD τ) (nth M4 c) fullShare.right.left (xb m c) := BI.Entails.refl _
theorem xsPay_4 (c : Dev nD) : (xsPay m c 4 : sProp 𝕄) ⊢ owns (c : Thread nD τ) (nth M4 (dx c 1)) fullShare.left (xb m (dx c 1)) := BI.Entails.refl _
theorem xsPay_5 (c : Dev nD) : (xsPay m c 5 : sProp 𝕄) ⊢ owns (c : Thread nD τ) (nth M4 (dx c 3)) fullShare.left (xb m (dx c 3)) := BI.Entails.refl _
theorem xsPay_6 (c : Dev nD) : (xsPay m c 6 : sProp 𝕄) ⊢ owns (c : Thread nD τ) (nth M4 (dx c 4)) fullShare.left (xb m (dx c 4)) := BI.Entails.refl _
theorem xsPay_7 (c : Dev nD) : (xsPay m c 7 : sProp 𝕄) ⊢ owns (c : Thread nD τ) (nth M4 (dx c 7)) fullShare.left (xb m (dx c 7)) := BI.Entails.refl _
theorem psPay_1 (c : Dev nD) : (psPay c 1 : sProp 𝕄) ⊢ free c (nth M5 5) := BI.Entails.refl _
theorem psPay_2 (c : Dev nD) : (psPay c 2 : sProp 𝕄) ⊢ free c (nth M6 0) := BI.Entails.refl _
theorem psPay_3 (c : Dev nD) : (psPay c 3 : sProp 𝕄) ⊢ free c (nth M5 6) := BI.Entails.refl _
theorem psPay_4 (c : Dev nD) : (psPay c 4 : sProp 𝕄) ⊢ free c (nth M5 4) := BI.Entails.refl _
theorem psPay_5 (c : Dev nD) : (psPay c 5 : sProp 𝕄) ⊢ free c (nth M6 1) := BI.Entails.refl _
theorem psPay_6 (c : Dev nD) : (psPay c 6 : sProp 𝕄) ⊢ free c (nth M6 2) := BI.Entails.refl _
theorem psPay_7 (c : Dev nD) : (psPay c 7 : sProp 𝕄) ⊢ free c (nth M7 3) := BI.Entails.refl _

/-! ## What a device holds from the start -/

section Start
variable (c : Dev nD)

/-- The tokens of the arrivals it causes on other devices. -/
def blockToks (c : Dev nD) : sProp 𝕄 := iprop(dutyTok ER (dc (dx c 1) (xr c)) 0 0 ∗ dutyTok ER (dc (dx c 3) (xr c)) 0 0 ∗ dutyTok ER (dc (dx c 4) (xr c)) 0 0 ∗ dutyTok ER (dc (dx c 3) (xr (dx c 1))) 0 0 ∗ dutyTok ER (dc (dx c 4) (xr (dx c 3))) 0 0 ∗ dutyTok ER (dc (dx c 1) (xr (dx c 4))) 0 0 ∗ dutyTok ER (dc (dx c 1) (xr (dx c 7))) 0 0)
def partToks (c : Dev nD) : sProp 𝕄 := iprop(dutyTok ER (dc (dx c 4) (pr 6)) 0 0 ∗ dutyTok ER (dc (dx c 3) (pr 5)) 0 0 ∗ dutyTok ER (dc (dx c 1) (pr 4)) 0 0 ∗ dutyTok ER (dc (dx c 6) (pr 3)) 0 0 ∗ dutyTok ER (dc (dx c 3) (pr 1)) 0 0 ∗ dutyTok ER (dc (dx c 1) (pr 0)) 0 0 ∗ dutyTok ER (dc (dx c 4) (pr 2)) 0 0)
/-- The tokens of the departures it causes on itself. -/
def sendToks (c : Dev nD) : sProp 𝕄 := iprop(dutyTok ER (dc c (xs 1)) 0 0 ∗ dutyTok ER (dc c (xs 2)) 0 0 ∗ dutyTok ER (dc c (xs 3)) 0 0 ∗ dutyTok ER (dc c (xs 4)) 0 0 ∗ dutyTok ER (dc c (xs 5)) 0 0 ∗ dutyTok ER (dc c (xs 6)) 0 0 ∗ dutyTok ER (dc c (xs 7)) 0 0)
def giveToks (c : Dev nD) : sProp 𝕄 := iprop(dutyTok ER (dc c (ps 1)) 0 0 ∗ dutyTok ER (dc c (ps 2)) 0 0 ∗ dutyTok ER (dc c (ps 3)) 0 0 ∗ dutyTok ER (dc c (ps 4)) 0 0 ∗ dutyTok ER (dc c (ps 5)) 0 0 ∗ dutyTok ER (dc c (ps 6)) 0 0 ∗ dutyTok ER (dc c (ps 7)) 0 0)
/-- The leave to wait for each arrival. -/
def blockCreds (c : Dev nD) : sProp 𝕄 := iprop(cred (tallyAt (dc c (xr (dx c 1))) () N) ∗ cred (tallyAt (dc c (xr (dx c 2))) () N) ∗ cred (tallyAt (dc c (xr (dx c 3))) () N) ∗ cred (tallyAt (dc c (xr (dx c 4))) () N) ∗ cred (tallyAt (dc c (xr (dx c 5))) () N) ∗ cred (tallyAt (dc c (xr (dx c 6))) () N) ∗ cred (tallyAt (dc c (xr (dx c 7))) () N))
def partCreds (c : Dev nD) : sProp 𝕄 := iprop(cred (tallyAt (dc c (pr 0)) () N) ∗ cred (tallyAt (dc c (pr 1)) () N) ∗ cred (tallyAt (dc c (pr 2)) () N) ∗ cred (tallyAt (dc c (pr 3)) () N) ∗ cred (tallyAt (dc c (pr 4)) () N) ∗ cred (tallyAt (dc c (pr 5)) () N) ∗ cred (tallyAt (dc c (pr 6)) () N))
/-- What is left of a DMA semaphore in the end. -/
def atEnd (c : Dev nD) (i : Fin 31) : sProp 𝕄 := if used c i.val then Dn c i else atPos ER (dc c i) 0 ∅ 0

theorem atEnd_used (i : Fin 31) (h : used c i.val = true) : (Dn c i : sProp 𝕄) ⊢ atEnd c i := by
  unfold atEnd; rw [if_pos h]
theorem atEnd_unused (i : Fin 31) (h : used c i.val = false) : (atPos ER (dc c i) 0 ∅ 0 : sProp 𝕄) ⊢ atEnd c i := by
  unfold atEnd; rw [if_neg (by rw [h]; exact Bool.false_ne_true)]

/-- The planes handed over at the barrier, each with the token of its arrival. -/
theorem targets :
    iprop(barOut c ∗ blockToks c ∗ partToks c)
      ⊢ (iprop((Tg (dx c 1) (xr c) (nth M4 c) ∗ Tg (dx c 3) (xr c) (nth M4 c) ∗ Tg (dx c 4) (xr c) (nth M4 c) ∗ Tg (dx c 3) (xr (dx c 1)) (nth M4 (dx c 1)) ∗ Tg (dx c 4) (xr (dx c 3)) (nth M4 (dx c 3)) ∗ Tg (dx c 1) (xr (dx c 4)) (nth M4 (dx c 4)) ∗ Tg (dx c 1) (xr (dx c 7)) (nth M4 (dx c 7)))
          ∗ (Tg (dx c 4) (pr 6) (nth M5 6) ∗ Tg (dx c 3) (pr 5) (nth M5 5) ∗ Tg (dx c 1) (pr 4) (nth M5 4) ∗ Tg (dx c 6) (pr 3) (nth M5 3) ∗ Tg (dx c 3) (pr 1) (nth M5 1) ∗ Tg (dx c 1) (pr 0) (nth M5 0) ∗ Tg (dx c 4) (pr 2) (nth M5 2))) : sProp 𝕄) := by
  unfold barOut blockToks partToks
  rw [barPay_1, barPay_3, barPay_4, barPay_6]
  rw [show dx (dx c 1) 1 = c by revert c; decide +kernel]
  rw [show dx (dx c 1) 5 = (dx c 4) by revert c; decide +kernel]
  rw [show dx (dx c 1) 6 = (dx c 7) by revert c; decide +kernel]
  rw [show dx (dx c 3) 3 = c by revert c; decide +kernel]
  rw [show dx (dx c 3) 2 = (dx c 1) by revert c; decide +kernel]
  rw [show dx (dx c 4) 4 = c by revert c; decide +kernel]
  rw [show dx (dx c 4) 7 = (dx c 3) by revert c; decide +kernel]
  unfold open4 open5 Tg
  iintro ⟨⟨⟨⟨FB0_1, RB0_1⟩, ⟨FB4_1, RB4_1⟩, ⟨FB7_1, RB7_1⟩, ⟨FP4, RP4⟩, ⟨FP0, RP0⟩⟩, ⟨⟨FB0_3, RB0_3⟩, ⟨FB1_3, RB1_3⟩, ⟨FP5, RP5⟩, ⟨FP1, RP1⟩⟩, ⟨⟨FB0_4, RB0_4⟩, ⟨FB3_4, RB3_4⟩, ⟨FP6, RP6⟩, ⟨FP2, RP2⟩⟩, ⟨FP3, RP3⟩⟩, ⟨TB0_1, TB0_3, TB0_4, TB1_3, TB3_4, TB4_1, TB7_1⟩, ⟨TP6, TP5, TP4, TP3, TP1, TP0, TP2⟩⟩
  isplitl [TB0_1 FB0_1 RB0_1 TB0_3 FB0_3 RB0_3 TB0_4 FB0_4 RB0_4 TB1_3 FB1_3 RB1_3 TB3_4 FB3_4 RB3_4 TB4_1 FB4_1 RB4_1 TB7_1 FB7_1 RB7_1]
  · isplitl [TB0_1 FB0_1 RB0_1]
    · isplitl [TB0_1]; · iexact TB0_1
      isplitl [FB0_1]; · iexact FB0_1
      iexact RB0_1
    isplitl [TB0_3 FB0_3 RB0_3]
    · isplitl [TB0_3]; · iexact TB0_3
      isplitl [FB0_3]; · iexact FB0_3
      iexact RB0_3
    isplitl [TB0_4 FB0_4 RB0_4]
    · isplitl [TB0_4]; · iexact TB0_4
      isplitl [FB0_4]; · iexact FB0_4
      iexact RB0_4
    isplitl [TB1_3 FB1_3 RB1_3]
    · isplitl [TB1_3]; · iexact TB1_3
      isplitl [FB1_3]; · iexact FB1_3
      iexact RB1_3
    isplitl [TB3_4 FB3_4 RB3_4]
    · isplitl [TB3_4]; · iexact TB3_4
      isplitl [FB3_4]; · iexact FB3_4
      iexact RB3_4
    isplitl [TB4_1 FB4_1 RB4_1]
    · isplitl [TB4_1]; · iexact TB4_1
      isplitl [FB4_1]; · iexact FB4_1
      iexact RB4_1
    isplitl [TB7_1]; · iexact TB7_1
    isplitl [FB7_1]; · iexact FB7_1
    iexact RB7_1
  isplitl [TP6 FP6 RP6]
  · isplitl [TP6]; · iexact TP6
    isplitl [FP6]; · iexact FP6
    iexact RP6
  isplitl [TP5 FP5 RP5]
  · isplitl [TP5]; · iexact TP5
    isplitl [FP5]; · iexact FP5
    iexact RP5
  isplitl [TP4 FP4 RP4]
  · isplitl [TP4]; · iexact TP4
    isplitl [FP4]; · iexact FP4
    iexact RP4
  isplitl [TP3 FP3 RP3]
  · isplitl [TP3]; · iexact TP3
    isplitl [FP3]; · iexact FP3
    iexact RP3
  isplitl [TP1 FP1 RP1]
  · isplitl [TP1]; · iexact TP1
    isplitl [FP1]; · iexact FP1
    iexact RP1
  isplitl [TP0 FP0 RP0]
  · isplitl [TP0]; · iexact TP0
    isplitl [FP0]; · iexact FP0
    iexact RP0
  isplitl [TP2]; · iexact TP2
  isplitl [FP2]; · iexact FP2
  iexact RP2

/-- The positions, tokens and leaves, semaphore by semaphore. -/
theorem ready :
    iprop((bigSep Finset.univ fun i : Fin 31 => atPos ER (dc c i) 0 ∅ 0) ∗ (bigSep Finset.univ fun i : Fin 31 => reached ER (dc c i) 0)
        ∗ sendToks c ∗ giveToks c ∗ blockCreds c ∗ partCreds c)
      ⊢ (iprop((atPos ER (dc c (xs 0)) 0 ∅ 0 ∗ atPos ER (dc c (xr c)) 0 ∅ 0 ∗ atPos ER (dc c (ps 0)) 0 ∅ 0)
          ∗ (Sd c (xs 1) ∗ Sd c (xs 2) ∗ Sd c (xs 3) ∗ Sd c (xs 4) ∗ Sd c (xs 5) ∗ Sd c (xs 6) ∗ Sd c (xs 7))
          ∗ (Sd c (ps 1) ∗ Sd c (ps 2) ∗ Sd c (ps 3) ∗ Sd c (ps 4) ∗ Sd c (ps 5) ∗ Sd c (ps 6) ∗ Sd c (ps 7))
          ∗ (Aw c (xr (dx c 1)) ∗ Aw c (xr (dx c 2)) ∗ Aw c (xr (dx c 3)) ∗ Aw c (xr (dx c 4)) ∗ Aw c (xr (dx c 5)) ∗ Aw c (xr (dx c 6)) ∗ Aw c (xr (dx c 7)))
          ∗ (Aw c (pr 0) ∗ Aw c (pr 1) ∗ Aw c (pr 2) ∗ Aw c (pr 3) ∗ Aw c (pr 4) ∗ Aw c (pr 5) ∗ Aw c (pr 6))) : sProp 𝕄) := by
  rw [cells_list c fun i : Fin 31 => (atPos ER (dc c i) 0 ∅ 0 : sProp 𝕄)]
  unfold sendToks giveToks blockCreds partCreds Sd Aw
  iintro ⟨⟨AS0, AS1, AS2, AS3, AS4, AS5, AS6, AS7, AR0, AR1, AR2, AR3, AR4, AR5, AR6, AR7, AP0, AP1, AP2, AP3, AP4, AP5, AP6, AP7, AQ0, AQ1, AQ2, AQ3, AQ4, AQ5, AQ6⟩, #Hr, ⟨TS1, TS2, TS3, TS4, TS5, TS6, TS7⟩, ⟨TP1, TP2, TP3, TP4, TP5, TP6, TP7⟩, ⟨CR1, CR2, CR3, CR4, CR5, CR6, CR7⟩, ⟨CQ0, CQ1, CQ2, CQ3, CQ4, CQ5, CQ6⟩⟩
  isplitl [AS0 AR0 AP0]
  · isplitl [AS0]; · iexact AS0
    isplitl [AR0]; · iexact AR0
    iexact AP0
  isplitl [AS1 AS2 AS3 AS4 AS5 AS6 AS7 TS1 TS2 TS3 TS4 TS5 TS6 TS7]
  · isplitl [AS1 TS1]
    · isplitl [AS1]; · iexact AS1
      isplitr
      · iapply (all_at (fun i : Fin 31 => (reached ER (dc c i) 0 : sProp 𝕄)) (xs 1)); iexact Hr
      iexact TS1
    isplitl [AS2 TS2]
    · isplitl [AS2]; · iexact AS2
      isplitr
      · iapply (all_at (fun i : Fin 31 => (reached ER (dc c i) 0 : sProp 𝕄)) (xs 2)); iexact Hr
      iexact TS2
    isplitl [AS3 TS3]
    · isplitl [AS3]; · iexact AS3
      isplitr
      · iapply (all_at (fun i : Fin 31 => (reached ER (dc c i) 0 : sProp 𝕄)) (xs 3)); iexact Hr
      iexact TS3
    isplitl [AS4 TS4]
    · isplitl [AS4]; · iexact AS4
      isplitr
      · iapply (all_at (fun i : Fin 31 => (reached ER (dc c i) 0 : sProp 𝕄)) (xs 4)); iexact Hr
      iexact TS4
    isplitl [AS5 TS5]
    · isplitl [AS5]; · iexact AS5
      isplitr
      · iapply (all_at (fun i : Fin 31 => (reached ER (dc c i) 0 : sProp 𝕄)) (xs 5)); iexact Hr
      iexact TS5
    isplitl [AS6 TS6]
    · isplitl [AS6]; · iexact AS6
      isplitr
      · iapply (all_at (fun i : Fin 31 => (reached ER (dc c i) 0 : sProp 𝕄)) (xs 6)); iexact Hr
      iexact TS6
    isplitl [AS7]; · iexact AS7
    isplitr
    · iapply (all_at (fun i : Fin 31 => (reached ER (dc c i) 0 : sProp 𝕄)) (xs 7)); iexact Hr
    iexact TS7
  isplitl [AP1 AP2 AP3 AP4 AP5 AP6 AP7 TP1 TP2 TP3 TP4 TP5 TP6 TP7]
  · isplitl [AP1 TP1]
    · isplitl [AP1]; · iexact AP1
      isplitr
      · iapply (all_at (fun i : Fin 31 => (reached ER (dc c i) 0 : sProp 𝕄)) (ps 1)); iexact Hr
      iexact TP1
    isplitl [AP2 TP2]
    · isplitl [AP2]; · iexact AP2
      isplitr
      · iapply (all_at (fun i : Fin 31 => (reached ER (dc c i) 0 : sProp 𝕄)) (ps 2)); iexact Hr
      iexact TP2
    isplitl [AP3 TP3]
    · isplitl [AP3]; · iexact AP3
      isplitr
      · iapply (all_at (fun i : Fin 31 => (reached ER (dc c i) 0 : sProp 𝕄)) (ps 3)); iexact Hr
      iexact TP3
    isplitl [AP4 TP4]
    · isplitl [AP4]; · iexact AP4
      isplitr
      · iapply (all_at (fun i : Fin 31 => (reached ER (dc c i) 0 : sProp 𝕄)) (ps 4)); iexact Hr
      iexact TP4
    isplitl [AP5 TP5]
    · isplitl [AP5]; · iexact AP5
      isplitr
      · iapply (all_at (fun i : Fin 31 => (reached ER (dc c i) 0 : sProp 𝕄)) (ps 5)); iexact Hr
      iexact TP5
    isplitl [AP6 TP6]
    · isplitl [AP6]; · iexact AP6
      isplitr
      · iapply (all_at (fun i : Fin 31 => (reached ER (dc c i) 0 : sProp 𝕄)) (ps 6)); iexact Hr
      iexact TP6
    isplitl [AP7]; · iexact AP7
    isplitr
    · iapply (all_at (fun i : Fin 31 => (reached ER (dc c i) 0 : sProp 𝕄)) (ps 7)); iexact Hr
    iexact TP7
  isplitl [AR1 CR1 AR2 CR2 AR3 CR3 AR4 CR4 AR5 CR5 AR6 CR6 AR7 CR7]
  · isplitl [AR1 CR1]
    · isplitl [AR1]; · iexact AR1
      iexact CR1
    isplitl [AR2 CR2]
    · isplitl [AR2]; · iexact AR2
      iexact CR2
    isplitl [AR3 CR3]
    · isplitl [AR3]; · iexact AR3
      iexact CR3
    isplitl [AR4 CR4]
    · isplitl [AR4]; · iexact AR4
      iexact CR4
    isplitl [AR5 CR5]
    · isplitl [AR5]; · iexact AR5
      iexact CR5
    isplitl [AR6 CR6]
    · isplitl [AR6]; · iexact AR6
      iexact CR6
    isplitl [AR7]; · iexact AR7
    iexact CR7
  isplitl [AQ0 CQ0]
  · isplitl [AQ0]; · iexact AQ0
    iexact CQ0
  isplitl [AQ1 CQ1]
  · isplitl [AQ1]; · iexact AQ1
    iexact CQ1
  isplitl [AQ2 CQ2]
  · isplitl [AQ2]; · iexact AQ2
    iexact CQ2
  isplitl [AQ3 CQ3]
  · isplitl [AQ3]; · iexact AQ3
    iexact CQ3
  isplitl [AQ4 CQ4]
  · isplitl [AQ4]; · iexact AQ4
    iexact CQ4
  isplitl [AQ5 CQ5]
  · isplitl [AQ5]; · iexact AQ5
    iexact CQ5
  isplitl [AQ6]; · iexact AQ6
  iexact CQ6

/-- Everything waited on, semaphore by semaphore. -/
theorem finished :
    iprop((atPos ER (dc c (xs 0)) 0 ∅ 0 ∗ atPos ER (dc c (xr c)) 0 ∅ 0 ∗ atPos ER (dc c (ps 0)) 0 ∅ 0)
          ∗ (Dn c (xs 1) ∗ Dn c (xs 2) ∗ Dn c (xs 3) ∗ Dn c (xs 4) ∗ Dn c (xs 5) ∗ Dn c (xs 6) ∗ Dn c (xs 7))
          ∗ (Dn c (ps 1) ∗ Dn c (ps 2) ∗ Dn c (ps 3) ∗ Dn c (ps 4) ∗ Dn c (ps 5) ∗ Dn c (ps 6) ∗ Dn c (ps 7))
          ∗ (Dn c (xr (dx c 1)) ∗ Dn c (xr (dx c 2)) ∗ Dn c (xr (dx c 3)) ∗ Dn c (xr (dx c 4)) ∗ Dn c (xr (dx c 5)) ∗ Dn c (xr (dx c 6)) ∗ Dn c (xr (dx c 7)))
          ∗ (Dn c (pr 0) ∗ Dn c (pr 1) ∗ Dn c (pr 2) ∗ Dn c (pr 3) ∗ Dn c (pr 4) ∗ Dn c (pr 5) ∗ Dn c (pr 6)))
      ⊢ (bigSep Finset.univ fun i : Fin 31 => atEnd c i : sProp 𝕄) := by
  rw [cells_list c fun i : Fin 31 => (atEnd c i : sProp 𝕄)]
  iintro ⟨⟨AS0, AR0, AP0⟩, ⟨AS1, AS2, AS3, AS4, AS5, AS6, AS7⟩, ⟨AP1, AP2, AP3, AP4, AP5, AP6, AP7⟩, ⟨AR1, AR2, AR3, AR4, AR5, AR6, AR7⟩, ⟨AQ0, AQ1, AQ2, AQ3, AQ4, AQ5, AQ6⟩⟩
  isplitl [AS0]; · iapply (atEnd_unused c (xs 0) (by revert c; decide +kernel)); iexact AS0
  isplitl [AS1]; · iapply (atEnd_used c (xs 1) (by revert c; decide +kernel)); iexact AS1
  isplitl [AS2]; · iapply (atEnd_used c (xs 2) (by revert c; decide +kernel)); iexact AS2
  isplitl [AS3]; · iapply (atEnd_used c (xs 3) (by revert c; decide +kernel)); iexact AS3
  isplitl [AS4]; · iapply (atEnd_used c (xs 4) (by revert c; decide +kernel)); iexact AS4
  isplitl [AS5]; · iapply (atEnd_used c (xs 5) (by revert c; decide +kernel)); iexact AS5
  isplitl [AS6]; · iapply (atEnd_used c (xs 6) (by revert c; decide +kernel)); iexact AS6
  isplitl [AS7]; · iapply (atEnd_used c (xs 7) (by revert c; decide +kernel)); iexact AS7
  isplitl [AR0]; · iapply (atEnd_unused c (xr c) (by revert c; decide +kernel)); iexact AR0
  isplitl [AR1]; · iapply (atEnd_used c (xr (dx c 1)) (by revert c; decide +kernel)); iexact AR1
  isplitl [AR2]; · iapply (atEnd_used c (xr (dx c 2)) (by revert c; decide +kernel)); iexact AR2
  isplitl [AR3]; · iapply (atEnd_used c (xr (dx c 3)) (by revert c; decide +kernel)); iexact AR3
  isplitl [AR4]; · iapply (atEnd_used c (xr (dx c 4)) (by revert c; decide +kernel)); iexact AR4
  isplitl [AR5]; · iapply (atEnd_used c (xr (dx c 5)) (by revert c; decide +kernel)); iexact AR5
  isplitl [AR6]; · iapply (atEnd_used c (xr (dx c 6)) (by revert c; decide +kernel)); iexact AR6
  isplitl [AR7]; · iapply (atEnd_used c (xr (dx c 7)) (by revert c; decide +kernel)); iexact AR7
  isplitl [AP0]; · iapply (atEnd_unused c (ps 0) (by revert c; decide +kernel)); iexact AP0
  isplitl [AP1]; · iapply (atEnd_used c (ps 1) (by revert c; decide +kernel)); iexact AP1
  isplitl [AP2]; · iapply (atEnd_used c (ps 2) (by revert c; decide +kernel)); iexact AP2
  isplitl [AP3]; · iapply (atEnd_used c (ps 3) (by revert c; decide +kernel)); iexact AP3
  isplitl [AP4]; · iapply (atEnd_used c (ps 4) (by revert c; decide +kernel)); iexact AP4
  isplitl [AP5]; · iapply (atEnd_used c (ps 5) (by revert c; decide +kernel)); iexact AP5
  isplitl [AP6]; · iapply (atEnd_used c (ps 6) (by revert c; decide +kernel)); iexact AP6
  isplitl [AP7]; · iapply (atEnd_used c (ps 7) (by revert c; decide +kernel)); iexact AP7
  isplitl [AQ0]; · iapply (atEnd_used c (pr 0) (by revert c; decide +kernel)); iexact AQ0
  isplitl [AQ1]; · iapply (atEnd_used c (pr 1) (by revert c; decide +kernel)); iexact AQ1
  isplitl [AQ2]; · iapply (atEnd_used c (pr 2) (by revert c; decide +kernel)); iexact AQ2
  isplitl [AQ3]; · iapply (atEnd_used c (pr 3) (by revert c; decide +kernel)); iexact AQ3
  isplitl [AQ4]; · iapply (atEnd_used c (pr 4) (by revert c; decide +kernel)); iexact AQ4
  isplitl [AQ5]; · iapply (atEnd_used c (pr 5) (by revert c; decide +kernel)); iexact AQ5
  iapply (atEnd_used c (pr 6) (by revert c; decide +kernel)); iexact AQ6

end Start

/-! ## The device's own block -/

section Text
variable (K : GSem nD τ sig → ℕ) (c : Dev nD) (a0 : Memref sig .tc .vmem S512x1024 .bf16) (a1 : Memref sig .tc .vmem S1024x3072 .bf16)
  (a2 : Memref sig .tc .vmem S1024x1024 .bf16) (a3 : Memref sig .tc .vmem S1x512x1024 .f32)
  (h4 : M4.IsWhole) (h5 : M5.IsWhole) (h6 : M6.IsWhole) (h7 : M7.IsWhole)

theorem sec_own (k : Pg F) (Q : PUnit → sProp 𝕄) :
    iprop(recs m K ∗ ow c 7 ∗ Wt m c a1 a2 ∗ owns (c : Thread nD τ) a0 fullShare (X0 m c) ∗ (∃ X, owns (c : Thread nD τ) a3 fullShare X)
        ∗ free c (nth M4 c) ∗ (Sd c (xs 1) ∗ Sd c (xs 2) ∗ Sd c (xs 3))
        ∗ (Tg (dx c 1) (xr c) (nth M4 c) ∗ Tg (dx c 3) (xr c) (nth M4 c) ∗ Tg (dx c 4) (xr c) (nth M4 c)))
      ⊢ iprop(((ow c 10 ∗ Wt m c a1 a2 ∗ owns (c : Thread nD τ) a0 fullShare (X0 m c) ∗ owns (c : Thread nD τ) a3 fullShare (up (own m c c))
            ∗ (Aw c (xs 1) ∗ Aw c (xs 2) ∗ Aw c (xs 3)) ∗ owns (c : Thread nD τ) (nth M4 c) fullShare.right.right (xb m c)) -∗ WP c k Q)
          -∗ WP c (ownText c a0 a1 a2 a3 M4 h4 cc0_scratch4 cc0_scratch5 k) Q) := by
  unfold ownText Wt
  iintro ⟨#HR, HO, ⟨HW1, HW2⟩, HX, HY, HM, ⟨S1, S2, S3⟩, ⟨T1, T2, T3⟩⟩ Hk
  icases HY with ⟨%X, HY⟩
  iapply (st_read c a0 _ fullShare (X0 m c)) $$ HX
  iintro HX
  iapply (st_store c M4 (k0_off1 c) (k0_off1_inb c) (xb m c) _ (nth M4 c) (plane_nth _ _ _ c (off1 c))) $$ HM
  iintro HM
  ihave HM' := (cut_four c (nth M4 c) (xb m c)) $$ HM
  icases HM' with ⟨⟨Q1, Q2⟩, ⟨Q3, Q4⟩⟩
  iapply (un_own m K c _ (dx c 1) (dev_8 c) ![1] inb_S8_S1_1 1 rfl 7 (by revert c; decide +kernel) (by revert c; decide +kernel) rfl _ rfl) $$ [HO S1 T1 Q1]
  · isplitr; · iexact HR
    isplitl [HO]; · iexact HO
    isplitl [S1]; · iexact S1
    isplitl [T1]; · iexact T1
    iexact Q1
  iintro ⟨HO, S1⟩
  iapply (un_own m K c _ (dx c 3) (dev_9 c) ![2] inb_S8_S1_2 2 rfl 8 (by revert c; decide +kernel) (by revert c; decide +kernel) rfl _ rfl) $$ [HO S2 T2 Q2]
  · isplitr; · iexact HR
    isplitl [HO]; · iexact HO
    isplitl [S2]; · iexact S2
    isplitl [T2]; · iexact T2
    iexact Q2
  iintro ⟨HO, S2⟩
  iapply (un_own m K c _ (dx c 4) (dev_10 c) ![3] inb_S8_S1_3 3 rfl 9 (by revert c; decide +kernel) (by revert c; decide +kernel) rfl _ rfl) $$ [HO S3 T3 Q3]
  · isplitr; · iexact HR
    isplitl [HO]; · iexact HO
    isplitl [S3]; · iexact S3
    isplitl [T3]; · iexact T3
    iexact Q3
  iintro ⟨HO, S3⟩
  iapply (st_part m c a1 a2 M4 (k0_off1 c) (k0_off1_inb c) fullShare.right.right c (nth M4 c) (plane_nth _ _ _ c (off1 c))) $$ [HW1 HW2 Q4]
  · isplitl [HW1]; · iexact HW1
    isplitl [HW2]; · iexact HW2
    iexact Q4
  iintro ⟨HW1, HW2, Q4⟩
  iapply (st_storeOut c a3 X (own m c c)) $$ HY
  iintro HY
  iapply Hk
  isplitl [HO]; · iexact HO
  isplitl [HW1 HW2]
  · isplitl [HW1]; · iexact HW1
    iexact HW2
  isplitl [HX]; · iexact HX
  isplitl [HY]; · iexact HY
  isplitl [S1 S2 S3]
  · isplitl [S1]; · iexact S1
    isplitl [S2]; · iexact S2
    iexact S3
  iexact Q4

/-! ## The whole text -/

/-- The planes of the four scratch stacks. -/
def planesOf (c : Dev nD) : sProp 𝕄 :=
  iprop((bigSep Finset.univ fun i : Fin 8 => free c (nth M4 i)) ∗ (bigSep Finset.univ fun i : Fin 7 => free c (nth M5 i))
    ∗ (bigSep Finset.univ fun i : Fin 3 => free c (nth M6 i)) ∗ (bigSep Finset.univ fun i : Fin 4 => free c (nth M7 i)))

/-- What device `c` starts its text with, apart from the blocks it reads. -/
def startOf (c : Dev nD) : sProp 𝕄 :=
  iprop((atPos ER (barCell c) 0 ∅ 0 ∗ cred (tallyAt (barCell c) () 7))
    ∗ (bigSep Finset.univ fun i : Fin 31 => atPos ER (dc c i) 0 ∅ 0) ∗ (bigSep Finset.univ fun i : Fin 31 => reached ER (dc c i) 0)
    ∗ (barToks c ∗ blockToks c ∗ partToks c ∗ sendToks c ∗ giveToks c) ∗ (blockCreds c ∗ partCreds c))

/-- The text of device `c`, from its start to its result. -/
theorem run_text (Q : PUnit → sProp 𝕄) :
    iprop(recs m K ∗ ow c 0 ∗ Wt m c a1 a2 ∗ owns (c : Thread nD τ) a0 fullShare (X0 m c) ∗ (∃ X, owns (c : Thread nD τ) a3 fullShare X)
        ∗ startOf c ∗ planesOf c)
      ⊢ iprop(((ow c 21 ∗ Wt m c a1 a2 ∗ owns (c : Thread nD τ) a0 fullShare (X0 m c) ∗ owns (c : Thread nD τ) a3 fullShare (up (result m c))
            ∗ atPos ER (barCell c) 1 ∅ 0 ∗ (bigSep Finset.univ fun i : Fin 31 => atEnd c i) ∗ planesOf c) -∗ WP c (.ret ⟨⟩) Q)
          -∗ WP c (text c a0 a1 a2 a3 M4 h4 M5 h5 M6 h6 M7 h7 cc0_scratch4 cc0_scratch5 cc0_scratch6 cc0_scratch7) Q) := by
  unfold text startOf planesOf
  rw [devs_list c fun i : Fin 8 => (free c (nth M4 i) : sProp 𝕄), fin7_list fun i : Fin 7 => (free c (nth M5 i) : sProp 𝕄),
    fin3_list fun i : Fin 3 => (free c (nth M6 i) : sProp 𝕄), fin4_list fun i : Fin 4 => (free c (nth M7 i) : sProp 𝕄)]
  iintro ⟨#HR, HO, HW, HX, HY, ⟨⟨Hb, Hbc⟩, Hat, #Hr, ⟨HTb, HTx, HTp, HTs, HTg⟩, ⟨HCx, HCp⟩⟩, ⟨⟨G0, G1, G2, G3, G4, G5, G6, G7⟩, ⟨P0, P1, P2, P3, P4, P5, P6⟩, ⟨V0, V1, V2⟩, ⟨Z0, Z1, Z2, Z3⟩⟩⟩ Hk
  ihave HG := (gives_all c) $$ [G1 G2 G3 G4 G5 G6 G7 P0 P1 P2 P3 P4 P5 P6]
  · isplitr; · iexact Hr
    isplitl [G1 G2 G3 G4 G5 G6 G7]
    · isplitl [G1]; · iexact G1
      isplitl [G2]; · iexact G2
      isplitl [G3]; · iexact G3
      isplitl [G4]; · iexact G4
      isplitl [G5]; · iexact G5
      isplitl [G6]; · iexact G6
      iexact G7
    isplitl [P0]; · iexact P0
    isplitl [P1]; · iexact P1
    isplitl [P2]; · iexact P2
    isplitl [P3]; · iexact P3
    isplitl [P4]; · iexact P4
    isplitl [P5]; · iexact P5
    iexact P6
  ihave HS := (ready c) $$ [Hat HTs HTg HCx HCp]
  · isplitl [Hat]; · iexact Hat
    isplitr; · iexact Hr
    isplitl [HTs]; · iexact HTs
    isplitl [HTg]; · iexact HTg
    isplitl [HCx]; · iexact HCx
    iexact HCp
  icases HS with ⟨⟨U0, U1, U2⟩, ⟨S1, S2, S3, S4, S5, S6, S7⟩, ⟨D1, D2, D3, D4, D5, D6, D7⟩, ⟨A1, A2, A3, A4, A5, A6, A7⟩, ⟨E0, E1, E2, E3, E4, E5, E6⟩⟩
  iapply (sec_barrier m K c) $$ [HO HTb HG Hb Hbc]
  · isplitr; · iexact HR
    isplitl [HO]; · iexact HO
    isplitl [HTb]; · iexact HTb
    isplitl [HG]; · iexact HG
    isplitl [Hb]; · iexact Hb
    iexact Hbc
  iintro ⟨HO, Hb, HB⟩
  ihave HT := (targets c) $$ [HB HTx HTp]
  · isplitl [HB]; · iexact HB
    isplitl [HTx]; · iexact HTx
    iexact HTp
  icases HT with ⟨⟨T0_1, T0_3, T0_4, T1_3, T3_4, T4_1, T7_1⟩, ⟨W6, W5, W4, W3, W1, W0, W2⟩⟩
  iapply (sec_own m K c a0 a1 a2 a3 h4) $$ [HO HW HX HY G0 S1 S2 S3 T0_1 T0_3 T0_4]
  · isplitr; · iexact HR
    isplitl [HO]; · iexact HO
    isplitl [HW]; · iexact HW
    isplitl [HX]; · iexact HX
    isplitl [HY]; · iexact HY
    isplitl [G0]; · iexact G0
    isplitl [S1 S2 S3]
    · isplitl [S1]; · iexact S1
      isplitl [S2]; · iexact S2
      iexact S3
    isplitl [T0_1]; · iexact T0_1
    isplitl [T0_3]; · iexact T0_3
    iexact T0_4
  iintro ⟨HO, HW, HX, HY, ⟨S1, S2, S3⟩, G0⟩
  iapply (sec_hops m K c a1 a2 h4 h5 h6 h7) $$ [HO HW A1 S4 T1_3 Z0 A3 S5 T3_4 Z1 A4 S6 T4_1 Z2 A7 S7 T7_1 Z3 D7 W6 A2 V0 D2 W5 A5 V1 D5 W4 A6 V2 D6 W3]
  · unfold hopIn giveIn lastIn
    isplitr; · iexact HR
    isplitl [HO]; · iexact HO
    isplitl [HW]; · iexact HW
    isplitl [A1 S4 T1_3 Z0 A3 S5 T3_4 Z1 A4 S6 T4_1 Z2 A7 S7 T7_1 Z3]
    · isplitl [A1 S4 T1_3 Z0]
      · isplitl [A1]; · iexact A1
        isplitl [S4]; · iexact S4
        isplitl [T1_3]; · iexact T1_3
        iexact Z0
      isplitl [A3 S5 T3_4 Z1]
      · isplitl [A3]; · iexact A3
        isplitl [S5]; · iexact S5
        isplitl [T3_4]; · iexact T3_4
        iexact Z1
      isplitl [A4 S6 T4_1 Z2]
      · isplitl [A4]; · iexact A4
        isplitl [S6]; · iexact S6
        isplitl [T4_1]; · iexact T4_1
        iexact Z2
      isplitl [A7]; · iexact A7
      isplitl [S7]; · iexact S7
      isplitl [T7_1]; · iexact T7_1
      iexact Z3
    isplitl [D7 W6]
    · isplitl [D7]; · iexact D7
      iexact W6
    isplitl [A2 V0 D2 W5]
    · isplitl [A2]; · iexact A2
      isplitl [V0]; · iexact V0
      isplitl [D2]; · iexact D2
      iexact W5
    isplitl [A5 V1 D5 W4]
    · isplitl [A5]; · iexact A5
      isplitl [V1]; · iexact V1
      isplitl [D5]; · iexact D5
      iexact W4
    isplitl [A6]; · iexact A6
    isplitl [V2]; · iexact V2
    isplitl [D6]; · iexact D6
    iexact W3
  unfold hopOut lastOut
  iintro ⟨HO, HW, ⟨⟨A1, S4, G1⟩, ⟨A3, S5, G3⟩, ⟨A4, S6, G4⟩, ⟨A7, S7, G7⟩⟩, HZ, D7, ⟨⟨A2, G2, D2⟩, ⟨A5, G5, D5⟩, ⟨A6, G6, D6⟩⟩⟩
  iapply (sec_sums m K c h5) $$ [HO HZ E6 D3 W1 E5 D1 W0 E4 D4 W2]
  · unfold sumIn
    isplitr; · iexact HR
    isplitl [HO]; · iexact HO
    isplitl [HZ]; · iexact HZ
    isplitl [E6 D3 W1]
    · isplitl [E6]; · iexact E6
      isplitl [D3]; · iexact D3
      iexact W1
    isplitl [E5 D1 W0]
    · isplitl [E5]; · iexact E5
      isplitl [D1]; · iexact D1
      iexact W0
    isplitl [E4]; · iexact E4
    isplitl [D4]; · iexact D4
    iexact W2
  unfold sumOut
  iintro ⟨HO, ⟨Z0, Z1, Z2⟩, ⟨E6, D3⟩, ⟨E5, D1⟩, ⟨E4, D4⟩⟩
  iapply (sec_totals m K c a3 h5) $$ [HO HY E1 E0 E3 E2]
  · isplitr; · iexact HR
    isplitl [HO]; · iexact HO
    isplitl [HY]; · iexact HY
    isplitl [E1]; · iexact E1
    isplitl [E0]; · iexact E0
    isplitl [E3]; · iexact E3
    iexact E2
  iintro ⟨HO, HY, ⟨E1, E0, E3, E2⟩, ⟨P1, P0, P3, P2⟩⟩
  iapply (sec_drain m K c h4 h5 h6 h7) $$ [HO S1 S2 S3 S4 S5 S6 S7 D7 D2 D5 D6 D3 D1 D4]
  · isplitr; · iexact HR
    isplitl [HO]; · iexact HO
    isplitl [S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      iexact S7
    isplitl [D7]; · iexact D7
    isplitl [D2]; · iexact D2
    isplitl [D5]; · iexact D5
    isplitl [D6]; · iexact D6
    isplitl [D3]; · iexact D3
    isplitl [D1]; · iexact D1
    iexact D4
  iintro ⟨HO, ⟨S1, S2, S3, S4, S5, S6, S7⟩, ⟨D7, D2, D5, D6, D3, D1, D4⟩, ⟨Y1, Y2, Y3, Y4, Y5, Y6, Y7⟩, ⟨O7, O2, O5, O6, O3, O1, O4⟩⟩
  iapply Hk
  isplitl [HO]; · iexact HO
  isplitl [HW]; · iexact HW
  isplitl [HX]; · iexact HX
  isplitl [HY]; · iexact HY
  isplitl [Hb]; · iexact Hb
  isplitl [U0 U1 U2 S1 S2 S3 S4 S5 S6 S7 D1 D2 D3 D4 D5 D6 D7 A1 A2 A3 A4 A5 A6 A7 E0 E1 E2 E3 E4 E5 E6]
  · iapply (finished c)
    isplitl [U0 U1 U2]
    · isplitl [U0]; · iexact U0
      isplitl [U1]; · iexact U1
      iexact U2
    isplitl [S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      iexact S7
    isplitl [D1 D2 D3 D4 D5 D6 D7]
    · isplitl [D1]; · iexact D1
      isplitl [D2]; · iexact D2
      isplitl [D3]; · iexact D3
      isplitl [D4]; · iexact D4
      isplitl [D5]; · iexact D5
      isplitl [D6]; · iexact D6
      iexact D7
    isplitl [A1 A2 A3 A4 A5 A6 A7]
    · isplitl [A1]; · iexact A1
      isplitl [A2]; · iexact A2
      isplitl [A3]; · iexact A3
      isplitl [A4]; · iexact A4
      isplitl [A5]; · iexact A5
      isplitl [A6]; · iexact A6
      iexact A7
    isplitl [E0]; · iexact E0
    isplitl [E1]; · iexact E1
    isplitl [E2]; · iexact E2
    isplitl [E3]; · iexact E3
    isplitl [E4]; · iexact E4
    isplitl [E5]; · iexact E5
    iexact E6
  isplitl [G0 Y1 Y2 Y3 G1 Y4 G2 G3 Y5 G4 Y6 G5 G6 G7 Y7]
  · isplitl [G0 Y1 Y2 Y3]
    · iapply (join_four c (nth M4 c) (xb m c))
      isplitl [Y1 Y2]
      · isplitl [Y1]; · iapply (xsPay_1 m c); iexact Y1
        iapply (xsPay_2 m c); iexact Y2
      isplitl [Y3]; · iapply (xsPay_3 m c); iexact Y3
      iexact G0
    isplitl [G1 Y4]
    · iapply (join_two c (nth M4 (dx c 1)) (xb m (dx c 1)))
      isplitl [Y4]; · iapply (xsPay_4 m c); iexact Y4
      iexact G1
    isplitl [G2]; · iapply (free_intro c (nth M4 (dx c 2)) (xb m (dx c 2))); iexact G2
    isplitl [G3 Y5]
    · iapply (join_two c (nth M4 (dx c 3)) (xb m (dx c 3)))
      isplitl [Y5]; · iapply (xsPay_5 m c); iexact Y5
      iexact G3
    isplitl [G4 Y6]
    · iapply (join_two c (nth M4 (dx c 4)) (xb m (dx c 4)))
      isplitl [Y6]; · iapply (xsPay_6 m c); iexact Y6
      iexact G4
    isplitl [G5]; · iapply (free_intro c (nth M4 (dx c 5)) (xb m (dx c 5))); iexact G5
    isplitl [G6]; · iapply (free_intro c (nth M4 (dx c 6)) (xb m (dx c 6))); iexact G6
    iapply (join_two c (nth M4 (dx c 7)) (xb m (dx c 7)))
    isplitl [Y7]; · iapply (xsPay_7 m c); iexact Y7
    iexact G7
  isplitl [P0 P1 P2 P3 O4 O1 O3]
  · isplitl [P0]; · iexact P0
    isplitl [P1]; · iexact P1
    isplitl [P2]; · iexact P2
    isplitl [P3]; · iexact P3
    isplitl [O4]; · iapply (psPay_4 c); iexact O4
    isplitl [O1]; · iapply (psPay_1 c); iexact O1
    iapply (psPay_3 c); iexact O3
  isplitl [O2 O5 O6]
  · isplitl [O2]; · iapply (psPay_2 c); iexact O2
    isplitl [O5]; · iapply (psPay_5 c); iexact O5
    iapply (psPay_6 c); iexact O6
  isplitl [Z0]; · iapply (free_intro c (nth M7 0) (pt m c (dx c 1))); iexact Z0
  isplitl [Z1]; · iapply (free_intro c (nth M7 1) (pt m c (dx c 3))); iexact Z1
  isplitl [Z2]; · iapply (free_intro c (nth M7 2) (pt m c (dx c 4))); iexact Z2
  iapply (psPay_7 c); iexact O7

end Text

end Cert.KernelIdeal.Run

end
-- ==== Proof.Region.lean ====
/- The kernel's region: what the body finds and leaves on each device. -/
module

public import proofs.«01_k».proof.Proof.Body
public import Idealize.ShloMosaic.Lib.Pipeline.RegionTalk
public import Idealize.ShloMosaic.Lib.Rounds.Family

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

/-! ## The scratch stacks as buffers and as planes -/

section Scratch
variable (c : Dev nD)

/-- The four scratch stacks of device `c`, whole, at contents not chosen. -/
def scratchOf (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem split_M4 (f : Buf (Elt F) ((c : Thread nD τ).loc cc0_scratch0)) :
    (((c : Thread nD τ).loc cc0_scratch0) ↦{fullShare} f : sProp 𝕄) ⊢ bigSep Finset.univ fun i => free c (nth M4 i) := by
  have h := planes_split M4 c f
  rw [show (M4).view.set = Finset.univ from View.set_whole _] at h
  exact h
theorem join_M4 (f₀ : Buf (Elt F) ((c : Thread nD τ).loc cc0_scratch0)) :
    (bigSep Finset.univ fun i => free c (nth M4 i)) ⊢ (iprop(∃ f : Buf (Elt F) ((c : Thread nD τ).loc cc0_scratch0), ((c : Thread nD τ).loc cc0_scratch0) ↦{fullShare} f) : sProp 𝕄) := by
  have h := planes_join M4 c f₀
  rw [show (M4).view.set = Finset.univ from View.set_whole _] at h
  exact h
theorem split_M5 (f : Buf (Elt F) ((c : Thread nD τ).loc cc0_scratch1)) :
    (((c : Thread nD τ).loc cc0_scratch1) ↦{fullShare} f : sProp 𝕄) ⊢ bigSep Finset.univ fun i => free c (nth M5 i) := by
  have h := planes_split M5 c f
  rw [show (M5).view.set = Finset.univ from View.set_whole _] at h
  exact h
theorem join_M5 (f₀ : Buf (Elt F) ((c : Thread nD τ).loc cc0_scratch1)) :
    (bigSep Finset.univ fun i => free c (nth M5 i)) ⊢ (iprop(∃ f : Buf (Elt F) ((c : Thread nD τ).loc cc0_scratch1), ((c : Thread nD τ).loc cc0_scratch1) ↦{fullShare} f) : sProp 𝕄) := by
  have h := planes_join M5 c f₀
  rw [show (M5).view.set = Finset.univ from View.set_whole _] at h
  exact h
theorem split_M6 (f : Buf (Elt F) ((c : Thread nD τ).loc cc0_scratch2)) :
    (((c : Thread nD τ).loc cc0_scratch2) ↦{fullShare} f : sProp 𝕄) ⊢ bigSep Finset.univ fun i => free c (nth M6 i) := by
  have h := planes_split M6 c f
  rw [show (M6).view.set = Finset.univ from View.set_whole _] at h
  exact h
theorem join_M6 (f₀ : Buf (Elt F) ((c : Thread nD τ).loc cc0_scratch2)) :
    (bigSep Finset.univ fun i => free c (nth M6 i)) ⊢ (iprop(∃ f : Buf (Elt F) ((c : Thread nD τ).loc cc0_scratch2), ((c : Thread nD τ).loc cc0_scratch2) ↦{fullShare} f) : sProp 𝕄) := by
  have h := planes_join M6 c f₀
  rw [show (M6).view.set = Finset.univ from View.set_whole _] at h
  exact h
theorem split_M7 (f : Buf (Elt F) ((c : Thread nD τ).loc cc0_scratch3)) :
    (((c : Thread nD τ).loc cc0_scratch3) ↦{fullShare} f : sProp 𝕄) ⊢ bigSep Finset.univ fun i => free c (nth M7 i) := by
  have h := planes_split M7 c f
  rw [show (M7).view.set = Finset.univ from View.set_whole _] at h
  exact h
theorem join_M7 (f₀ : Buf (Elt F) ((c : Thread nD τ).loc cc0_scratch3)) :
    (bigSep Finset.univ fun i => free c (nth M7 i)) ⊢ (iprop(∃ f : Buf (Elt F) ((c : Thread nD τ).loc cc0_scratch3), ((c : Thread nD τ).loc cc0_scratch3) ↦{fullShare} f) : sProp 𝕄) := by
  have h := planes_join M7 c f₀
  rw [show (M7).view.set = Finset.univ from View.set_whole _] at h
  exact h

theorem planes_of_scratch : (scratchOf c : sProp 𝕄) ⊢ planesOf c := by
  unfold scratchOf planesOf
  iintro ⟨⟨%f0, H0⟩, ⟨%f1, H1⟩, ⟨%f2, H2⟩, ⟨%f3, H3⟩⟩
  isplitl [H0]; · iapply (split_M4 c f0); iexact H0
  isplitl [H1]; · iapply (split_M5 c f1); iexact H1
  isplitl [H2]; · iapply (split_M6 c f2); iexact H2
  iapply (split_M7 c f3); iexact H3

theorem scratch_of_planes (m : (ℓ : Loc nD τ sig) → Buf (Elt F) ℓ) (c : Dev nD) : (planesOf c : sProp 𝕄) ⊢ scratchOf c := by
  unfold scratchOf planesOf
  iintro ⟨H0, H1, H2, H3⟩
  isplitl [H0]; · iapply (join_M4 c (m ((c : Thread nD τ).loc cc0_scratch0))); iexact H0
  isplitl [H1]; · iapply (join_M5 c (m ((c : Thread nD τ).loc cc0_scratch1))); iexact H1
  isplitl [H2]; · iapply (join_M6 c (m ((c : Thread nD τ).loc cc0_scratch2))); iexact H2
  iapply (join_M7 c (m ((c : Thread nD τ).loc cc0_scratch3))); iexact H3

end Scratch

/-! ## The region's data -/

/-- The buffers of @main when the region is entered, and when it is left with `f` as its result. -/
abbrev Vi (c : Dev nD) : Valuation τ sig (Elt F) := StableHlo.after Gen.hostOps0 (fun b => m (c, b))

/-- What enters the region: the records, and what the device starts its text with. -/
def Xk (c : Dev nD) : sProp 𝕄 := iprop(∃ K, recs m K ∗ startOf c)
/-- The DMA semaphores, all back at zero. -/
def zeros (c : Dev nD) : sProp 𝕄 := bigSep Finset.univ fun i : Fin 31 => semVal (dc c i) 0
/-- What the device has before its text and after it. -/
def before₀ (c : Dev nD) : sProp 𝕄 := iprop(scratchOf c ∗ (∃ r, prngReg c r) ∗ Xk m c)
def after₀ (c : Dev nD) : sProp 𝕄 := iprop(scratchOf c ∗ (∃ r, prngReg c r) ∗ zeros c ∗ semVal (barCell c) 0)

/-- The blocks the body finds and leaves, and what the device owes around it. -/
def dat0 (c : Dev nD) : Dat τ (Elt F) Unit ℕ UU ℕ cfg0 c where
  A w := Vi m c (Pipeline.arrRef spec0 w)
  after w _ := match w with
    | ⟨0, _⟩ => X0 m c
    | ⟨1, _⟩ => X1 m c
    | ⟨2, _⟩ => X2 m c
    | ⟨3, _⟩ => up (result m c)
  Φ t := if t.val = 0 then before₀ m c else after₀ c
  q _ := fullShare
  owed t := if t.val = 0 then D c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

section Data
variable (c : Dev nD)

theorem owed_first : (dat0 m c).owed Gen.t0_0.castSucc = D c 0 := by
  show (if (Gen.t0_0.castSucc : Fin (cfg0.N + 1)).val = 0 then D c 0 else 0) = D c 0; exact if_pos rfl
theorem owed_zero : (pdats m 0 c).owed 0 = D c 0 := by
  show (if ((0 : Fin (cfg0.N + 1)).val = 0) then D c 0 else 0) = D c 0; exact if_pos rfl
theorem owed_last : (pdats m 0 c).owed (Fin.last _) = 0 := by
  show (if (Fin.last cfg0.N).val = 0 then D c 0 else 0) = 0
  rw [Fin.val_last, if_neg (by rw [show cfg0.N = 1 from Gen.N_0]; decide)]
theorem owed_succ : (dat0 m c).owed Gen.t0_0.succ = 0 := owed_last m c

theorem keep_0 (t) : (cfg0.win 0).cut (cfg0.grid.coords t) ((dat0 m c).after 0 t) = (dat0 m c).blockOf 0 t := by
  obtain rfl := Gen.fin_N0 t
  rw [show (dat0 m c).after 0 Gen.t0_0 = X0 m c from rfl]
  unfold Dat.blockOf X0 Gen.iblk
  rw [show (dat0 m c).A 0 = Gen.V m c (Pipeline.arrRef spec0 0) from rfl]
theorem keep_1 (t) : (cfg0.win 1).cut (cfg0.grid.coords t) ((dat0 m c).after 1 t) = (dat0 m c).blockOf 1 t := by
  obtain rfl := Gen.fin_N0 t
  rw [show (dat0 m c).after 1 Gen.t0_0 = X1 m c from rfl]
  unfold Dat.blockOf X1 Gen.iblk
  rw [show (dat0 m c).A 1 = Gen.V m c (Pipeline.arrRef spec0 1) from rfl]
theorem keep_2 (t) : (cfg0.win 2).cut (cfg0.grid.coords t) ((dat0 m c).after 2 t) = (dat0 m c).blockOf 2 t := by
  obtain rfl := Gen.fin_N0 t
  rw [show (dat0 m c).after 2 Gen.t0_0 = X2 m c from rfl]
  unfold Dat.blockOf X2 Gen.iblk
  rw [show (dat0 m c).A 2 = Gen.V m c (Pipeline.arrRef spec0 2) from rfl]
/-- The body finds each input block as it lies in its array. -/
theorem found_0 (d) : (dat0 m c).before 0 Gen.t0_0 d = X0 m c :=
  ((dat0 m c).before_in_eq_fetched 0 rfl (fun _ => rfl) (fun _ _ _ => rfl) (keep_0 m c) Gen.t0_0 d).trans rfl
theorem found_1 (d) : (dat0 m c).before 1 Gen.t0_0 d = X1 m c :=
  ((dat0 m c).before_in_eq_fetched 1 rfl (fun _ => rfl) (fun _ _ _ => rfl) (keep_1 m c) Gen.t0_0 d).trans rfl
theorem found_2 (d) : (dat0 m c).before 2 Gen.t0_0 d = X2 m c :=
  ((dat0 m c).before_in_eq_fetched 2 rfl (fun _ => rfl) (fun _ _ _ => rfl) (keep_2 m c) Gen.t0_0 d).trans rfl

/-- The debt at a point, as the region states it and as the text does. -/
theorem owes_in (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound; rw [h0, show (dat0 m c).recorded t = Set.univ from rfl]
  iintro HO; iexists W; isplitr; · ipureintro; exact fun _ _ => Or.inl trivial
  iexact HO
theorem owes_out (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

/-! ## Closing the semaphores -/

/-- The round each DMA semaphore ends at. -/
def endOf (c : Dev nD) (i : Fin 31) : ℕ := if used c i.val then 1 else 0
theorem atEnd_pos (i : Fin 31) : (atEnd c i : sProp 𝕄) ⊢ atPos ER (dc c i) (endOf c i) ∅ 0 := by
  unfold atEnd endOf Dn; split <;> exact BI.Entails.refl _
theorem duties_end (i : Fin 31) : ∀ r, endOf c i ≤ r → (rd (F := F) m).duties (dc c i) r = ∅ := fun r hr => by
  unfold endOf at hr
  by_cases h : used c i.val = true
  · rw [if_pos h] at hr; exact duties_later m _ r hr
  · exact duties_never m c i (Bool.eq_false_iff.mpr h) r (Nat.zero_le r)

theorem recs_all (K : GSem nD τ sig → ℕ) : recs m K ⊢ (bigSep Finset.univ fun i : Fin 31 => cellInv ER (rd m) (K (dc c i)) (dc c i) : sProp 𝕄) := by
  unfold recs
  rw [bigSep_univ_prod]
  iintro ⟨-, H, -⟩
  iapply (all_at (fun d : Dev nD => (bigSep Finset.univ fun i : Fin 31 => cellInv ER (rd m) (K (dc d i)) (dc d i) : sProp 𝕄)) c); iexact H

/-- Every DMA semaphore of the device is closed, its counter at zero. -/
theorem close_dma (K : GSem nD τ sig → ℕ) :
    iprop(recs m K ∗ bigSep Finset.univ fun i : Fin 31 => atEnd c i) ⊢ (|={Set.univ}=> zeros c : sProp 𝕄) := by
  refine BI.Entails.trans (BI.sep_mono (recs_all m c K) (bigSep_mono fun i _ => atEnd_pos c i)) ?_
  refine BI.Entails.trans (Entails.of_eq (bigSep_sep' _ _ _).symm) ?_
  exact Rounds.cells_close ER (rd m) Finset.univ (fun i : Fin 31 => dc c i) (fun i => K (dc c i)) (fun _ _ => Set.mem_univ _) (fun _ _ h => h)
    (endOf c) fun i _ => duties_end m c i

/-- So is its barrier. -/
theorem close_bar (K : GSem nD τ sig → ℕ) :
    iprop(recs m K ∗ atPos ER (barCell c) 1 ∅ 0) ⊢ (|={Set.univ}=> semVal (barCell c) 0 : sProp 𝕄) :=
  BI.Entails.trans (BI.sep_mono (recs_bar m K c) (BI.Entails.refl _))
    (Rounds.cell_close ER (rd m) (Set.mem_univ _) (fun h => h) (duties_later m (barCell c)))

/-! ## The body -/

/-- The kernel's body on device `c`: the records and the start in, the result and the closed semaphores out. -/
theorem run_body (a0 : Memref sig .tc .vmem S512x1024 .bf16) (h0 : a0.IsWhole) (a1 : Memref sig .tc .vmem S1024x3072 .bf16) (h1 : a1.IsWhole)
    (a2 : Memref sig .tc .vmem S1024x1024 .bf16) (h2 : a2.IsWhole) (a3 : Memref sig .tc .vmem S1x512x1024 .f32) (h3 : a3.IsWhole)
    (h4 : M4.IsWhole) (h5 : M5.IsWhole) (h6 : M6.IsWhole) (h7 : M7.IsWhole) (Q : PUnit → sProp 𝕄) :
    iprop(before₀ m c ∗ (∃ W, owes (c : Thread nD τ) (D c 0) W) ∗ owns (c : Thread nD τ) a0 fullShare (X0 m c) ∗ owns (c : Thread nD τ) a1 fullShare (X1 m c)
        ∗ owns (c : Thread nD τ) a2 fullShare (X2 m c) ∗ (∃ X, owns (c : Thread nD τ) a3 fullShare X))
      ⊢ iprop(((after₀ c ∗ (∃ W, owes (c : Thread nD τ) 0 W) ∗ owns (c : Thread nD τ) a0 fullShare (X0 m c) ∗ owns (c : Thread nD τ) a1 fullShare (X1 m c)
            ∗ owns (c : Thread nD τ) a2 fullShare (X2 m c) ∗ owns (c : Thread nD τ) a3 fullShare (up (result m c))) -∗ Q ⟨⟩)
          -∗ WP c (cc0_body a0 h0 a1 h1 a2 h2 a3 h3 M4 h4 M5 h5 M6 h6 M7 h7 cc0_scratch4 cc0_scratch5 cc0_scratch6 cc0_scratch7) Q) := by
  rw [body_eq]
  unfold WP
  rw [wp_deviceId]
  unfold before₀ Xk after₀
  iintro ⟨⟨Hscr, Hreg, ⟨%K, #HR, Hst⟩⟩, HO, H0, H1, H2, H3⟩ Hk
  ihave HP := (planes_of_scratch c) $$ Hscr
  iapply (run_text m K c a0 a1 a2 a3 h4 h5 h6 h7) $$ [HO H0 H1 H2 H3 Hst HP]
  · isplitr; · iexact HR
    isplitl [HO]; · unfold ow; iexact HO
    isplitl [H1 H2]
    · unfold Wt
      isplitl [H1]; · iexact H1
      iexact H2
    isplitl [H0]; · iexact H0
    isplitl [H3]; · iexact H3
    isplitl [Hst]; · iexact Hst
    iexact HP
  unfold ow Wt
  iintro ⟨HO, ⟨H1, H2⟩, H0, H3, Hb, Hat, HP⟩
  rw [WP, wp_ret]
  imod (close_dma m c K) $$ [Hat] with Hz
  · isplitr; · iexact HR
    iexact Hat
  imod (close_bar m c K) $$ [Hb] with Hb
  · isplitr; · iexact HR
    iexact Hb
  imodintro
  iapply Hk
  isplitl [HP Hreg Hz Hb]
  · isplitl [HP]; · iapply (scratch_of_planes m c); iexact HP
    isplitl [Hreg]; · iexact Hreg
    isplitl [Hz]; · iexact Hz
    iexact Hb
  isplitl [HO]; · iexact HO
  isplitl [H0]; · iexact H0
  isplitl [H1]; · iexact H1
  isplitl [H2]; · iexact H2
  iexact H3

/-- The region's obligation on its body. -/
theorem body_obligation : BodyObligation (dat0 m c) (defs₀ (F := F)) 𝒱₀ () Set.univ := fun t => by
  obtain rfl := Gen.fin_N0 t
  rw [Gen.bigSep_W0, Gen.bigSep_W0]
  rw [show (dat0 m c).Φ Gen.t0_0.castSucc = before₀ m c from rfl, show (dat0 m c).Φ Gen.t0_0.succ = after₀ c from rfl]
  iintro ⟨Hb, HO, ⟨%d0, H0⟩, ⟨%d1, H1⟩, ⟨%d2, H2⟩, ⟨%d3, H3⟩⟩
  rw [found_0, found_1, found_2]
  ihave HO' := (owes_out m c _ (D c 0) (owed_first m c)) $$ HO
  iapply (run_body m c (win0_0.stage (cfg0.slots Gen.t0_0 0)) (hstage0_0 0) (win0_1.stage (cfg0.slots Gen.t0_0 1)) (hstage0_1 0)
    (win0_2.stage (cfg0.slots Gen.t0_0 2)) (hstage0_2 0) (win0_3.stage (cfg0.slots Gen.t0_0 3)) (hstage0_3 0)
    (Memref.isWhole_whole _) (Memref.isWhole_whole _) (Memref.isWhole_whole _) (Memref.isWhole_whole _)) $$ [Hb HO' H0 H1 H2 H3]
  · isplitl [Hb]; · iexact Hb
    isplitl [HO']; · iexact HO'
    isplitl [H0]; · iexact H0
    isplitl [H1]; · iexact H1
    isplitl [H2]; · iexact H2
    iexists _; iexact H3
  iintro ⟨Hb, ⟨%W, HO⟩, H0, H1, H2, H3⟩
  isplitl [Hb]; · iexact Hb
  isplitl [HO]; · iapply (owes_in m c _ 0 (owed_succ m c) W); iexact HO
  isplitl [H0]; · iexact H0
  isplitl [H1]; · iexact H1
  isplitl [H2]; · iexact H2
  iexact H3

end Data

end Cert.KernelIdeal.Run

end
-- ==== Proof.Talk.lean ====
/- The region as a segment of @main: its semaphores opened on entering, its buffers before and after. -/
module

public import proofs.«01_k».proof.Proof.Region
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

/-! ## The records -/

abbrev barEmb : Dev nD ↪ GSem nD τ sig := ⟨barCell, fun _ _ h => congrArg (fun g : GSem nD τ sig => g.1.1) h⟩
abbrev dmaEmb : Dev nD × Fin 31 ↪ GSem nD τ sig :=
  ⟨fun p => dc p.1 p.2, fun _ _ h => Prod.ext (congrArg (fun g : GSem nD τ sig => g.1.1) h)
    (Fin.ext (Nat.add_left_cancel (congrArg (fun g : GSem nD τ sig => match g.2 with | .reg _ => 0 | .dma s => s.val) h)))⟩
abbrev barCells : Finset (GSem nD τ sig) := Finset.univ.map barEmb
abbrev dmaCells : Finset (GSem nD τ sig) := Finset.univ.map dmaEmb

theorem cells_apart : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact absurd (congrArg Prod.snd h) (fun h => by cases h)

variable (K : GSem nD τ sig → ℕ) (c : Dev nD)

/-- Every semaphore's invariant, the barriers' first rounds open. -/
def records : sProp 𝕄 :=
  iprop((bigSep (barCells ∪ dmaCells) fun g => cellInv ER (rd m) (K g) g) ∗ bigSep barCells fun g => reached ER g 0)
instance records_persistent : BI.Persistent (records m K) := by unfold records; infer_instance

theorem invs_split : (bigSep (barCells ∪ dmaCells) fun g => cellInv ER (rd m) (K g) g : sProp 𝕄)
    = iprop((bigSep Finset.univ fun c : Dev nD => cellInv ER (rd m) (K (barCell c)) (barCell c))
      ∗ (bigSep Finset.univ fun p : Dev nD × Fin 31 => cellInv ER (rd m) (K (dc p.1 p.2)) (dc p.1 p.2))) := by
  rw [bigSep_union cells_apart, bigSep_map, bigSep_map]; rfl

theorem recs_intro : iprop(records m K ∗ levAts L lv) ⊢ recs m K := by
  unfold records recs
  rw [invs_split, bigSep_map]
  iintro ⟨⟨⟨Hb, Hd⟩, Hr⟩, Hl⟩
  isplitl [Hb]; · iexact Hb
  isplitl [Hd]; · iexact Hd
  isplitl [Hr]; · iexact Hr
  iexact Hl

/-- The tokens of everything device `c` raises. -/
def allToks (c : Dev nD) : sProp 𝕄 := iprop(barToks c ∗ blockToks c ∗ partToks c ∗ sendToks c ∗ giveToks c)
/-- Its barrier's position, its rights to open its DMA semaphores, and those tokens. -/
def linear (c : Dev nD) : sProp 𝕄 :=
  iprop(atPos ER (barCell c) 0 ∅ 0 ∗ (bigSep Finset.univ fun i : Fin 31 => openTok ER (dc c i)) ∗ allToks c)
/-- The leave to wait that it starts with. -/
def allCreds (c : Dev nD) : sProp 𝕄 := iprop(cred (tallyAt (barCell c) () 7) ∗ blockCreds c ∗ partCreds c)

/-- What the launch keeps for the region. -/
def Tk (c : Dev nD) : sProp 𝕄 := iprop((∃ K, records m K ∗ linear c) ∗ allCreds c)

theorem open_all : iprop((bigSep Finset.univ fun i : Fin 31 => cellInv ER (rd m) (K (dc c i)) (dc c i)) ∗ (bigSep Finset.univ fun i : Fin 31 => openTok ER (dc c i)) ∗ zeros c)
    ⊢ (|={Set.univ}=> iprop((bigSep Finset.univ fun i : Fin 31 => atPos ER (dc c i) 0 ∅ 0) ∗ (bigSep Finset.univ fun i : Fin 31 => reached ER (dc c i) 0)) : sProp 𝕄) := by
  have h := Rounds.cells_open ER (rd (F := F) m) Finset.univ (fun i : Fin 31 => dc c i) (fun i => K (dc c i)) (Es := Set.univ) (fun _ _ => Set.mem_univ _)
  rw [bigSep_sep', bigSep_sep'] at h
  unfold zeros
  iintro ⟨Hi, Ho, Hz⟩
  iapply h
  isplitl [Hi Ho]
  · isplitl [Hi]; · iexact Hi
    iexact Ho
  iexact Hz

/-- On entering the region the DMA semaphores are opened. -/
theorem enter : iprop(Tk m c ∗ zeros c ∗ levAts L lv) ⊢ (|={Set.univ}=> Xk m c : sProp 𝕄) := by
  unfold Tk Xk linear allCreds startOf allToks
  iintro ⟨⟨⟨%K, #HR, Hb, Ho, Ht⟩, Hc, Hc2⟩, Hz, #HL⟩
  ihave #HR2 : recs m K $$ []
  · iapply (recs_intro m K)
    isplitr; · iexact HR
    iexact HL
  ihave #HI := (recs_all m c K) $$ HR2
  imod (open_all m K c) $$ [Ho Hz] with ⟨Ha, Hr⟩
  · isplitr; · iexact HI
    isplitl [Ho]; · iexact Ho
    iexact Hz
  imodintro
  iexists K
  isplitr; · iexact HR2
  isplitl [Hb Hc]
  · isplitl [Hb]; · iexact Hb
    iexact Hc
  isplitl [Ha]; · iexact Ha
  isplitl [Hr]; · iexact Hr
  isplitl [Ht]; · iexact Ht
  iexact Hc2

/-! ## The region -/

abbrev osem (i : Fin 31) : SemLoc sig := .dma (dm i)
/-- The buffers once the region has run. -/
def Vo (c : Dev nD) : Valuation τ sig (Elt F) := Function.update (Vi m c) (Proc.devRef .tc main_v6) (up (result m c))

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem debt_lv : ∀ p ∈ debts c, 0 < lv p.1 () := by revert c; decide +kernel
theorem stage_lv : ∀ (w : Fin 4) (s : Fin (spec0 w).nbuf), ((spec0 w).sem s).val < 12 := by decide
theorem zeros_eq : (Pipeline.ownSems0 osem c : sProp 𝕄) = zeros c := rfl

theorem cut_debts (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then D c 0 else 0 := rfl
  rw [e] at h
  split at h
  · obtain ⟨p, hp, rfl⟩ := tally_pos h
    refine ⟨?_, ?_⟩
    · unfold L; rw [if_pos (debt_tc c p hp)]; exact Finset.mem_singleton_self _
    · exact debt_lv c p hp
  · exact absurd h (Nat.lt_irrefl 0)

theorem region_in : iprop(Pipeline.scopedRest (Pipeline.pin (pcfgs (F := F)) adm 0).spec c ∗ (∃ r, prngReg c r) ∗ StableHlo.held (c.tc : Thread nD τ) ∅ (Vi m c) ∗ Xk m c)
    ⊢ (pdats m 0 c).Φ 0 := by
  rw [show (pdats m 0 c).Φ 0 = before₀ m c from rfl]
  rw [show (Pipeline.scopedRest (Pipeline.pin (pcfgs (F := F)) adm 0).spec c : sProp 𝕄) = scratchOf c from Gen.scopedRest0_eq c]
  unfold before₀
  iintro ⟨Hs, Hp, -, HX⟩
  isplitl [Hs]; · iexact Hs
  isplitl [Hp]; · iexact Hp
  iexact HX

theorem region_out : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vo m c)
        ∗ Pipeline.ownSems0 osem c ∗ semVal (barCell c) 0) := by
  rw [show (pdats m 0 c).Φ (Fin.last _) = after₀ c from rfl]
  rw [show (Pipeline.scopedRest (Pipeline.pin (pcfgs (F := F)) adm 0).spec c : sProp 𝕄) = scratchOf c from Gen.scopedRest0_eq c, zeros_eq]
  unfold after₀
  iintro ⟨Hs, Hp, Hz, Hb⟩
  isplitl [Hs]; · iexact Hs
  isplitl [Hp]; · iexact Hp
  isplitr; · unfold StableHlo.held; rw [bigSep_empty]; iempintro
  isplitl [Hz]; · iexact Hz
  iexact Hb

/-- The result's array when the region is left. -/
theorem arr_out : (dat0 m c).arrAt 3 cfg0.N = up (result m c) :=
  (dat0 m c).arrAt_eq_of_after_last 3 Gen.t0_0 (by decide) _ (fun j => rfl)

theorem arr_first (w) : (pdats m 0 c).arrAt w 0 = Vi m c (Proc.devRef .tc (Pipeline.arrRef (Pipeline.pin (pcfgs (F := F)) adm 0).spec w)) :=
  match w with
  | ⟨0, _⟩ => rfl
  | ⟨1, _⟩ => rfl
  | ⟨2, _⟩ => rfl
  | ⟨3, _⟩ => rfl

theorem vo_ne (b : Ref sig .tc) (h : b ≠ main_v6) : Vo m c (Proc.devRef .tc b) = Vi m c (Proc.devRef .tc b) :=
  Function.update_of_ne (StableHlo.devRef_ne_of_ne h) _ _

theorem vo_out : Vo m c (Proc.devRef .tc main_v6) = up (result m c) := by
  unfold Vo; exact Function.update_self (β := fun b : DevRef τ sig => b.ty.Contents (Elt F)) _ _ _

theorem arr_last (w) : (pdats m 0 c).arrAt w (Pipeline.pin (pcfgs (F := F)) adm 0).N
    = Vo m c (Proc.devRef .tc (Pipeline.arrRef (Pipeline.pin (pcfgs (F := F)) adm 0).spec w)) :=
  match w with
  | ⟨0, _⟩ => ((dat0 m c).arrAt_in 0 rfl _).trans (vo_ne m c main_v2 (by decide)).symm
  | ⟨1, _⟩ => ((dat0 m c).arrAt_in 1 rfl _).trans (vo_ne m c main_v4 (by decide)).symm
  | ⟨2, _⟩ => ((dat0 m c).arrAt_in 2 rfl _).trans (vo_ne m c main_v5 (by decide)).symm
  | ⟨3, _⟩ => (arr_out m c).trans (vo_out m c).symm

/-- The buffers of @main that no window of the region reads or writes. -/
abbrev rest : Finset (DevRef τ sig) := Pipeline.ucRefs τ sig \ Pipeline.arrRefs (τ := τ) spec0

theorem rest_kept (b) (hb : b ∈ rest \ ∅) : Vo m c b = Vi m c b := by
  refine Function.update_of_ne (fun h => ?_) _ _
  subst h
  rw [Finset.sdiff_empty] at hb
  exact (Finset.mem_sdiff.mp hb).2 (by decide)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ rest (Finset.empty_subset _) kit rfl (fun c => (body_obligation m c).loose)
    (fun _ => 0) (fun c => D c 0) (fun c => (owed_zero m c).trans (zero_add _).symm) (owed_last m) (fun _ => rfl) (fun _ w => by fin_cases w <;> rfl)
    (Vi m) (Vo m) (fun c b hb => rest_kept m c b hb)
    (Tk m) (fun c => semVal (barCell c) 0) (Xk m) (fun c => semVal (barCell c) 0) (enter m) (region_in m) (region_out m)
    (fun c => by iintro H; imodintro; iexact H)
    (fun _ => 0)
    ⟨fun c w s => by rw [L_tc]; exact Finset.mem_singleton_self _, fun c w s => Nat.le_of_eq (if_pos (stage_lv w s)), fun c t g i h => cut_debts m c t g i h⟩
    (fun _ => iprop(emp))
    (fun c w => arr_first m c w) (fun c w => arr_last m c w)

/-- What rides beside @main's buffers up to the region. -/
def R (c : Dev nD) : sProp 𝕄 := iprop(Tk m c ∗ (∃ r, prngReg c r) ∗ ∃ W, owes (c : Thread nD τ) (D c 0) W)

abbrev Vm (c : Dev nD) : Valuation τ sig (Elt F) := fun b => m (c, b)

/-- The host operations before it. -/
def seg0 : Pipeline.HostSeg (Name := ℕ) (U := UU) (pcfgs (F := F)) defs₀ 𝒱₀ L lv :=
  Pipeline.HostSeg.ofOps (pcfgs (F := F)) defs₀ 𝒱₀ L lv (Pipeline.ucRefs τ sig) Gen.hostOps0
    (fun op h => Pipeline.sub_ucRefs op (List.forall_iff_forall_mem.mp Gen.hostOps0_sub op h))
    (fun op h => List.forall_iff_forall_mem.mp Gen.hostOps0_fresh op h) (Vm m) (R m)

theorem arrs_sub : (Pipeline.arrRefs (τ := τ) spec0) ⊆ Pipeline.ucRefs τ sig := Pipeline.arrRefs_sub_ucRefs spec0 (by decide)

theorem reg0_pre : iprop(StableHlo.held (c : Thread nD τ) (Pipeline.ucRefs τ sig) (Vi m c) ∗ R m c) ⊢ (reg0 m).pre c := by
  show _ ⊢ iprop(StableHlo.held (c.tc : Thread nD τ) (Pipeline.arrRefs (τ := τ) spec0) (Vi m c) ∗ (∃ r, prngReg c r)
    ∗ (StableHlo.held (c.tc : Thread nD τ) rest (Vi m c) ∗ emp) ∗ Tk m c ∗ ∃ Wd, owes (c : Thread nD τ) (0 + D c 0) Wd)
  rw [zero_add, StableHlo.held_sub_split (c.tc : Thread nD τ) arrs_sub (Vi m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post : (reg0 m).post c
    ⊢ iprop((StableHlo.held (c : Thread nD τ) (Pipeline.ucRefs τ sig) (Vo m c) ∗ semVal (barCell c) 0) ∗ ∃ W, owes (c : Thread nD τ) (0 : CellTallies nD τ sig Unit) W) := by
  show iprop(StableHlo.held (c.tc : Thread nD τ) (Pipeline.arrRefs (τ := τ) spec0) (Vo m c) ∗ (∃ r, prngReg c r)
    ∗ (StableHlo.held (c.tc : Thread nD τ) rest (Vo m c) ∗ emp) ∗ semVal (barCell c) 0 ∗ ∃ Wd, owes (c : Thread nD τ) (0 : CellTallies nD τ sig Unit) Wd) ⊢ _
  rw [StableHlo.held_sub_split (c.tc : Thread nD τ) arrs_sub (Vo m c)]
  iintro ⟨Ha, -, ⟨Hr, -⟩, Hb, HO⟩
  isplitr [HO]
  · isplitl [Ha Hr]
    · isplitl [Ha]; · iexact Ha
      iexact Hr
    iexact Hb
  iexact HO

/-- @main as its two segments. -/
def segs : List (Pipeline.Seg (pcfgs (F := F)) adm (pdats m) () defs₀ 𝒱₀ L lv) := [.host (seg0 m), .region (reg0 m)]

theorem main_eq : main (F := F) c = Pipeline.Seg.run (segs m) := Gen.main_segs adm (pdats m) () 𝒱₀ L lv (seg0 m) (reg0 m) rfl c

end Cert.KernelIdeal.Run

end
-- ==== Proof.Launch.lean ====
/- The launch: the tokens and the leave to wait dealt to the devices, and the run of @main. -/
module

public import proofs.«01_k».proof.Proof.Talk

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat Cfg Window BodyObligation cellOf)
open Facts₀ Facts

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

/-! ## The tokens, each kept by the device that raises -/

/-- The receivers of device `c`'s transfers and the semaphores raised there. -/
def blockTo (c : Dev nD) (b : Fin 7) : Dev nD × Fin 31 := match b with
  | 0 => (dx c 1, xr c)
  | 1 => (dx c 3, xr c)
  | 2 => (dx c 4, xr c)
  | 3 => (dx c 3, xr (dx c 1))
  | 4 => (dx c 4, xr (dx c 3))
  | 5 => (dx c 1, xr (dx c 4))
  | 6 => (dx c 1, xr (dx c 7))
def partTo (c : Dev nD) (b : Fin 7) : Dev nD × Fin 31 := match b with
  | 0 => (dx c 4, pr 6)
  | 1 => (dx c 3, pr 5)
  | 2 => (dx c 1, pr 4)
  | 3 => (dx c 6, pr 3)
  | 4 => (dx c 3, pr 1)
  | 5 => (dx c 1, pr 0)
  | 6 => (dx c 4, pr 2)
/-- The seven duties of each of the five kinds that device `c` pays: where, and on which semaphore (none for the barrier). -/
def duty (c : Dev nD) (a : Fin 5) (b : Fin 7) : Dev nD × Option (Fin 31) := match a with
  | 0 => (rot c (b.val + 1), none)
  | 1 => ((blockTo c b).1, some (blockTo c b).2)
  | 2 => ((partTo c b).1, some (partTo c b).2)
  | 3 => (c, some (xs ⟨b.val + 1, by omega⟩))
  | 4 => (c, some (ps ⟨b.val + 1, by omega⟩))
/-- The name it pays under. -/
def payer (c : Dev nD) (n : Option (Fin 31)) : Dev nD := match n with | none => c | some _ => 0
def cellAt (d : Dev nD) (n : Option (Fin 31)) : GSem nD τ sig := match n with | none => barCell d | some i => dc d i
theorem cellAt_inj {d d' : Dev nD} {n n' : Option (Fin 31)} (h : cellAt d n = cellAt d' n') : (d, n) = (d', n') := by
  match n, n' with
  | none, none => exact Prod.ext (congrArg (fun g : GSem nD τ sig => g.1.1) h) rfl
  | some i, some i' => exact congrArg (fun p : Dev nD × Fin 31 => (p.1, some p.2)) (dmaEmb.injective (a₁ := (d, i)) (a₂ := (d', i')) h)
  | none, some i' => exact absurd (congrArg Prod.snd h) (fun h => by cases h)
  | some i, none => exact absurd (congrArg Prod.snd h) (fun h => by cases h)

theorem duty_inj : Function.Injective fun p : Dev nD × Fin 5 × Fin 7 => (duty p.1 p.2.1 p.2.2, payer p.1 (duty p.1 p.2.1 p.2.2).2) := by decide +kernel

def tok (p : Dev nD × Fin 5 × Fin 7) : GSem nD τ sig × ℕ × Dev nD :=
  (cellAt (duty p.1 p.2.1 p.2.2).1 (duty p.1 p.2.1 p.2.2).2, 0, payer p.1 (duty p.1 p.2.1 p.2.2).2)
theorem tok_inj : Function.Injective tok := fun p q h => duty_inj (Prod.ext
  (cellAt_inj (congrArg (fun t : GSem nD τ sig × ℕ × Dev nD => t.1) h)) (congrArg (fun t : GSem nD τ sig × ℕ × Dev nD => t.2.2) h))
def toks : Finset (GSem nD τ sig × ℕ × Dev nD) := Finset.univ.map ⟨tok, tok_inj⟩

theorem fin5_sep (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem fin7_sep (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The tokens, dealt. -/
theorem toks_dealt : (bigSep toks fun t => dutyTok ER t.1 t.2.1 t.2.2 : sProp 𝕄) = bigSep Finset.univ fun c : Dev nD => allToks c := by
  unfold toks
  rw [bigSep_map, bigSep_univ_prod]
  refine bigSep_congr fun c _ => ?_
  rw [bigSep_univ_prod, fin5_sep, fin7_sep, fin7_sep, fin7_sep, fin7_sep, fin7_sep]
  rfl

/-! ## The leave to wait, from what the others owe -/

/-- What is owed at device `c`'s semaphores, in the order in which it is owed. -/
def claims (c : Dev nD) : List (GSem nD τ sig × ℕ) :=
  [(barCell c, 1), (barCell c, 1), (barCell c, 1), (barCell c, 1), (barCell c, 1), (barCell c, 1), (barCell c, 1),
   (dc c (xr (dx c 1)), N), (dc c (xr (dx c 3)), N), (dc c (xr (dx c 4)), N), (dc c (xr (dx c 2)), N), (dc c (xr (dx c 7)), N), (dc c (xr (dx c 5)), N), (dc c (xr (dx c 6)), N),
   (dc c (pr 6), N), (dc c (pr 5), N), (dc c (pr 4), N), (dc c (pr 3), N), (dc c (pr 1), N), (dc c (pr 0), N), (dc c (pr 2), N)]

/-- A sum over the devices may be taken over their receivers. -/
theorem move (f : Dev nD → Dev nD) (hf : Function.Bijective f) (g g' : Dev nD → GSem nD τ sig) (h : ∀ c, g c = g' (f c)) (n : ℕ) :
    (∑ c, tallyAt (g c) () n : CellTallies nD τ sig Unit) = ∑ c, tallyAt (g' c) () n := by
  rw [Finset.sum_congr rfl fun c _ => show tallyAt (g c) () n = tallyAt (g' (f c)) () n by rw [h c]]
  exact hf.sum_comp fun c => (tallyAt (g' c) () n : CellTallies nD τ sig Unit)

theorem move_bar (k : ℕ) (hk : Function.Bijective fun c => rot c k) :
    (∑ c, tallyAt (barCell (rot c k)) () 1 : CellTallies nD τ sig Unit) = ∑ c, tallyAt (barCell c) () 1 :=
  move (fun c => rot c k) hk _ _ (fun _ => rfl) 1
theorem move_dma (k : ℕ) (hk : Function.Bijective fun c => dx c k) (i j : Dev nD → Fin 31) (h : ∀ c, i c = j (dx c k)) :
    (∑ c, tallyAt (dc (dx c k) (i c)) () N : CellTallies nD τ sig Unit) = ∑ c, tallyAt (dc c (j c)) () N :=
  move (fun c => dx c k) hk _ _ (fun c => by rw [h c]) N

theorem owed_claimed : (∑ c, D c 0 : CellTallies nD τ sig Unit) = ∑ c, tally (claims c) := by
  simp only [D, debts, claims, List.drop_zero, tally, List.foldr_cons, List.foldr_nil, Finset.sum_add_distrib]
  rw [move_bar 1 (by decide +kernel),
    move_bar 2 (by decide +kernel),
    move_bar 3 (by decide +kernel),
    move_bar 4 (by decide +kernel),
    move_bar 5 (by decide +kernel),
    move_bar 6 (by decide +kernel),
    move_bar 7 (by decide +kernel),
    move_dma 1 (by decide +kernel) (fun c => xr c) (fun c => xr (dx c 1)) (by decide +kernel),
    move_dma 3 (by decide +kernel) (fun c => xr c) (fun c => xr (dx c 3)) (by decide +kernel),
    move_dma 4 (by decide +kernel) (fun c => xr c) (fun c => xr (dx c 4)) (by decide +kernel),
    move_dma 3 (by decide +kernel) (fun c => xr (dx c 1)) (fun c => xr (dx c 2)) (by decide +kernel),
    move_dma 4 (by decide +kernel) (fun c => xr (dx c 3)) (fun c => xr (dx c 7)) (by decide +kernel),
    move_dma 1 (by decide +kernel) (fun c => xr (dx c 4)) (fun c => xr (dx c 5)) (by decide +kernel),
    move_dma 1 (by decide +kernel) (fun c => xr (dx c 7)) (fun c => xr (dx c 6)) (by decide +kernel),
    move_dma 4 (by decide +kernel) (fun c => pr 6) (fun c => pr 6) (fun _ => rfl),
    move_dma 3 (by decide +kernel) (fun c => pr 5) (fun c => pr 5) (fun _ => rfl),
    move_dma 1 (by decide +kernel) (fun c => pr 4) (fun c => pr 4) (fun _ => rfl),
    move_dma 6 (by decide +kernel) (fun c => pr 3) (fun c => pr 3) (fun _ => rfl),
    move_dma 3 (by decide +kernel) (fun c => pr 1) (fun c => pr 1) (fun _ => rfl),
    move_dma 1 (by decide +kernel) (fun c => pr 0) (fun c => pr 0) (fun _ => rfl),
    move_dma 4 (by decide +kernel) (fun c => pr 2) (fun c => pr 2) (fun _ => rfl)]

theorem claims_tc : ∀ p ∈ claims c, p.1.1 = (c.tc : Thread nD τ) := by
  unfold claims
  simp only [List.forall_mem_cons, List.not_mem_nil, false_implies, implies_true, and_true, and_self]

theorem creds_owed : (Pipeline.launchCred (fun c => D c 0) c : sProp 𝕄) = cred (tally (claims c)) :=
  Pipeline.launchCred_of_sum _ (fun c => tally (claims c)) owed_claimed
    (fun d g hg => by
      obtain ⟨i, hi⟩ := DFunLike.ne_iff.mp hg
      obtain ⟨p, hp, rfl⟩ := tally_pos (Nat.pos_of_ne_zero hi)
      exact claims_tc d p hp) c

theorem cred_tally (l : List (GSem nD τ sig × ℕ)) : (cred (tally l) : sProp 𝕄) = bigSepL l fun p => cred (tallyAt p.1 () p.2) := by
  induction l with
  | nil => exact cred_zero
  | cons p l ih =>
    rw [bigSepL_cons, ← ih, show tally (p :: l) = tallyAt p.1 () p.2 + tally l from add_comm _ _]
    exact BI.Entails.antisymm (cred_add _ _).1 (cred_add _ _).2

theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

theorem creds_dealt : (Pipeline.launchCred (fun c => D c 0) c : sProp 𝕄) ⊢ allCreds c := by
  rw [creds_owed, cred_tally]
  unfold allCreds blockCreds partCreds
  show iprop(cred (tallyAt (barCell c) () 1) ∗ cred (tallyAt (barCell c) () 1) ∗ cred (tallyAt (barCell c) () 1) ∗ cred (tallyAt (barCell c) () 1) ∗ cred (tallyAt (barCell c) () 1) ∗ cred (tallyAt (barCell c) () 1) ∗ cred (tallyAt (barCell c) () 1) ∗ cred (tallyAt (dc c (xr (dx c 1))) () N) ∗ cred (tallyAt (dc c (xr (dx c 3))) () N) ∗ cred (tallyAt (dc c (xr (dx c 4))) () N) ∗ cred (tallyAt (dc c (xr (dx c 2))) () N) ∗ cred (tallyAt (dc c (xr (dx c 7))) () N) ∗ cred (tallyAt (dc c (xr (dx c 5))) () N) ∗ cred (tallyAt (dc c (xr (dx c 6))) () N) ∗ cred (tallyAt (dc c (pr 6)) () N) ∗ cred (tallyAt (dc c (pr 5)) () N) ∗ cred (tallyAt (dc c (pr 4)) () N) ∗ cred (tallyAt (dc c (pr 3)) () N) ∗ cred (tallyAt (dc c (pr 1)) () N) ∗ cred (tallyAt (dc c (pr 0)) () N) ∗ cred (tallyAt (dc c (pr 2)) () N)) ⊢ _
  iintro ⟨B1, B2, B3, B4, B5, B6, B7, X0, X1, X2, X3, X4, X5, X6, P0, P1, P2, P3, P4, P5, P6⟩
  isplitl [B1 B2 B3 B4 B5 B6 B7]
  · iapply (cred_join (barCell c) 6 1) $$ [B1 B2 B3 B4 B5 B6 B7]
    isplitr [B7]
    · iapply (cred_join (barCell c) 5 1)
      isplitr [B6]
      · iapply (cred_join (barCell c) 4 1)
        isplitr [B5]
        · iapply (cred_join (barCell c) 3 1)
          isplitr [B4]
          · iapply (cred_join (barCell c) 2 1)
            isplitr [B3]
            · iapply (cred_join (barCell c) 1 1)
              isplitl [B1] <;> iassumption
            iexact B3
          iexact B4
        iexact B5
      iexact B6
    iexact B7
  isplitl [X0 X1 X2 X3 X4 X5 X6]
  · isplitl [X0]; · iexact X0
    isplitl [X3]; · iexact X3
    isplitl [X1]; · iexact X1
    isplitl [X2]; · iexact X2
    isplitl [X5]; · iexact X5
    isplitl [X6]; · iexact X6
    iexact X4
  isplitl [P5]; · iexact P5
  isplitl [P4]; · iexact P4
  isplitl [P6]; · iexact P6
  isplitl [P3]; · iexact P3
  isplitl [P2]; · iexact P2
  isplitl [P1]; · iexact P1
  iexact P0

/-! ## The launch -/

/-- The launch element: the staging semaphores' part, and this protocol's. -/
def u₀ : UU :=
  (initOf (Pipeline.cells (Pipeline.pin (pcfgs (F := F)) adm) Gen.cellOf_inj) (Pipeline.launchToks (Pipeline.pin (pcfgs (F := F)) adm) Gen.cellOf_inj),
    launchOf barCells dmaCells toks)

/-- The protocol's launch resource, put on the first device until it is dealt. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells dmaCells toks)))

theorem unscoped_sems : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_only : ∀ sm : SemLoc sig, sm.isScoped .tc = false → sm = .reg barrier0 := by decide

theorem both (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
theorem of_both (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-- What a device starts with beside the protocol's resources. -/
def other (c : Dev nD) : sProp 𝕄 :=
  iprop(StableHlo.held (c : Thread nD τ) (Pipeline.ucRefs τ sig) (Vm m c) ∗ allCreds c ∗ owes (c : Thread nD τ) (D c 0) ∅ ∗ ∃ r, prngReg c r)

abbrev T₀ (c : Dev nD) : sProp 𝕄 := iprop(StableHlo.held (c : Thread nD τ) (Pipeline.ucRefs τ sig) (Vm m c) ∗ R m c)
abbrev Tₙ (c : Dev nD) : sProp 𝕄 := iprop(StableHlo.held (c : Thread nD τ) (Pipeline.ucRefs τ sig) (Vo m c) ∗ semVal (barCell c) 0)

theorem T₀_intro : iprop(records m K ∗ (linear c ∗ other m c)) ⊢ T₀ m c := by
  unfold other T₀ R Tk
  iintro ⟨#HR, Hl, Hh, Hc, HO, Hp⟩
  isplitl [Hh]; · iexact Hh
  isplitl [Hl Hc]
  · isplitl [Hl]
    · iexists K
      isplitr; · iexact HR
      iexact Hl
    iexact Hc
  isplitl [Hp]; · iexact Hp
  iexists ∅; iexact HO

theorem core (ρ : Dev nD → PrngReg) (c : Dev nD) : iprop(unscopedBufs c (fun b => m ((c : Thread nD τ).loc b)) ∗ unscopedSems0 c
      ∗ owes (c : Thread nD τ) (D c 0) ∅ ∗ Pipeline.launchCred (fun c => D c 0) c ∗ prngReg c (ρ c) ∗ G c)
    ⊢ (iprop(other m c ∗ (semVal (barCell c) 0 ∗ G c)) : sProp 𝕄) := by
  rw [show unscopedBufs c (fun b => m ((c : Thread nD τ).loc b)) = StableHlo.held (c : Thread nD τ) (Pipeline.ucRefs τ sig) (Vm m c) from Pipeline.unscopedBufs_held c (Vm m c),
    unscoped_sems]
  unfold other
  iintro ⟨Hh, Hs, HO, Hcr, Hp, HG⟩
  isplitr [Hs HG]
  · isplitl [Hh]; · iexact Hh
    isplitl [Hcr]; · iapply (creds_dealt c); iexact Hcr
    isplitl [HO]; · iexact HO
    iexists (ρ c); iexact Hp
  isplitl [Hs] <;> iassumption

theorem bars_in : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bars_at : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem dmas_open : bigSep dmaCells (fun g => (openTok ER g : sProp 𝕄))
    ⊢ bigSep Finset.univ (fun c : Dev nD => (bigSep Finset.univ fun i : Fin 31 => openTok ER (dc c i) : sProp 𝕄)) :=
  Entails.of_eq (by rw [bigSep_map, bigSep_univ_prod]; rfl)

theorem init (ρ : Dev nD → PrngReg) :
    iprop((bigSep Finset.univ fun c : Dev nD => iprop(unscopedBufs c (fun b => m ((c : Thread nD τ).loc b)) ∗ unscopedSems0 c
          ∗ owes (c : Thread nD τ) (D c 0) ∅ ∗ Pipeline.launchCred (fun c => D c 0) c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (D c 0) ∅ ∗ Pipeline.launchCred (fun c => D c 0) c ∗ prngReg c (ρ c) ∗ G c))
      ⊢ (bigSep Finset.univ fun c : Dev nD => iprop(other m c ∗ (semVal (barCell c) 0 ∗ G c)) : sProp 𝕄) from bigSep_mono fun c _ => core m ρ c) $$ H
  ihave H2 := (of_both _ _) $$ H'; icases H2 with ⟨HB, H3⟩
  ihave H4 := (of_both _ _) $$ H3; icases H4 with ⟨Hv, HG⟩
  ihave Hu := (show bigSep Finset.univ (G (F := F)) ⊢ BI.own (ER (launchOf barCells dmaCells toks)) from
    Entails.of_eq (onFirst_all (F := F) (BI.own (ER (launchOf barCells dmaCells toks))))) $$ HG
  imod (Rounds.fund_launch ER (rd m) cells_apart (fun g _ h => h) toks) $$ [Hv Hu] with ⟨%K, -, #Hinv, #Hr, Hat, Hopen, Htok⟩
  · isplitl [Hv]
    · iapply (bars_in (F := F)) $$ Hv
    · iexact Hu
  imodintro
  iapply (bigSep_with_persistent (R := records m K) (Φ := fun c => iprop(linear c ∗ other m c)) fun c _ => T₀_intro m K c)
  isplitr
  · unfold records
    isplitr; · iexact Hinv
    iexact Hr
  iapply (both _ _)
  isplitr [HB]
  · unfold linear
    iapply (both _ _); isplitl [Hat]; · iapply (bars_at (F := F)) $$ Hat
    iapply (both _ _); isplitl [Hopen]; · iapply (dmas_open (F := F)) $$ Hopen
    iapply (Entails.of_eq (toks_dealt (F := F))) $$ Htok
  · iexact HB

/-! ## The run -/

abbrev ptv (c : Dev nD) (b : Ref sig .tc) (v : Buf (Elt F) ((c : Thread nD τ).loc b)) : sProp 𝕄 := ((c : Thread nD τ).loc b) ↦{fullShare} v

/-- The arguments and the result. -/
def six : Finset (DevRef τ sig) := {Proc.devRef .tc main_arg0, Proc.devRef .tc main_arg1, Proc.devRef .tc main_arg2, Proc.devRef .tc main_arg3, Proc.devRef .tc main_arg4, Proc.devRef .tc main_v6}
theorem held_list (V : Valuation τ sig (Elt F)) : (StableHlo.held (c : Thread nD τ) six V : sProp 𝕄)
    = iprop(ptv c main_arg0 (V main_arg0) ∗ ptv c main_arg1 (V main_arg1) ∗ ptv c main_arg2 (V main_arg2) ∗ ptv c main_arg3 (V main_arg3)
      ∗ ptv c main_arg4 (V main_arg4) ∗ ptv c main_v6 (V main_v6)) := by
  unfold StableHlo.held six
  rw [bigSep_eq_bigSepL_of_eq [Proc.devRef .tc main_arg0, Proc.devRef .tc main_arg1, Proc.devRef .tc main_arg2, Proc.devRef .tc main_arg3, Proc.devRef .tc main_arg4, Proc.devRef .tc main_v6] (by decide) (by decide)]
  rfl

/-- @main's buffers, singled out: the arguments and the result. -/
theorem held_six (V : Valuation τ sig (Elt F)) : (StableHlo.held (c : Thread nD τ) (Pipeline.ucRefs τ sig) V : sProp 𝕄)
    ⊢ iprop(ptv c main_arg0 (V main_arg0) ∗ ptv c main_arg1 (V main_arg1) ∗ ptv c main_arg2 (V main_arg2) ∗ ptv c main_arg3 (V main_arg3)
      ∗ ptv c main_arg4 (V main_arg4) ∗ ptv c main_v6 (V main_v6)) := by
  rw [StableHlo.held_sub_split (c : Thread nD τ) (T := six) (by decide) V, held_list]
  iintro ⟨H, -⟩
  iexact H

/-- The state a device ends in: its arguments as launched, its result what the text leaves, its barrier at zero. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v6) = (up (result m c) : Vec F S1x512x1024 .f32) ∧ s.sem (barCell c) = 0

theorem ends (s' : Phys nD τ sig (Elt F)) : iprop(Tₙ m c ∗ SI s') ⊢ (|={Set.univ}=> iprop(⌜Ends m c s'.mem⌝ ∗ SI s') : sProp 𝕄) := by
  dsimp only [Tₙ]
  iintro ⟨⟨Hh, Hb⟩, HSI⟩
  ihave H := (held_six c (Vo m c)) $$ Hh
  icases H with ⟨H0, H1, H2, H3, H4, H6⟩
  icombine HSI H0 gives %h0
  icombine HSI H1 gives %h1
  icombine HSI H2 gives %h2
  icombine HSI H3 gives %h3
  icombine HSI H4 gives %h4
  icombine HSI H6 gives %h6
  icombine HSI Hb gives %hb
  imodintro
  isplitr
  · ipureintro
    exact ⟨⟨(Buf.eq_of_forall_mem_univ h0).trans ((vo_ne m c main_arg0 (by decide)).trans (Gen.V_main_arg0 m c)),
      (Buf.eq_of_forall_mem_univ h1).trans ((vo_ne m c main_arg1 (by decide)).trans (Gen.V_main_arg1 m c)),
      (Buf.eq_of_forall_mem_univ h2).trans ((vo_ne m c main_arg2 (by decide)).trans (Gen.V_main_arg2 m c)),
      (Buf.eq_of_forall_mem_univ h3).trans ((vo_ne m c main_arg3 (by decide)).trans (Gen.V_main_arg3 m c)),
      (Buf.eq_of_forall_mem_univ h4).trans ((vo_ne m c main_arg4 (by decide)).trans (Gen.V_main_arg4 m c))⟩,
      (Buf.eq_of_forall_mem_univ h6).trans (vo_out m c), by simpa using hb⟩
  iexact HSI

set_option backward.isDefEq.respectTransparency.types false in
/-- The run: from any memory with every counter at zero, every weakly fair execution of @main on the eight devices ends,
    and in every final state each device's arguments are as launched, its result is the text's, and every counter is zero. -/
theorem run_main (ρ : Dev nD → PrngReg) : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => D c 0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [onFirst_all]; iexact HX)
    (T₀ := T₀ m) (Tₙ := Tₙ m)
    (hch := ⟨fun c => .rfl, fun c => reg0_pre m c, fun c => reg0_post m c⟩)
    (hinit := init m ρ)
    (QY := Ends m)
    (hfin := ends m)
    (hQ := fun s h hs => ⟨h, sem_eq_zero hs fun c sm hsm => by
      obtain rfl := unscoped_only sm hsm
      exact (h c).2.2⟩)

end Cert.KernelIdeal.Run

end
-- ==== Proof.Frames.lean ====
/- The frame claims of the two kernel programs, which have one text: each device's arguments end as they began, and every
   semaphore counter ends at zero. -/
module

public import proofs.«01_k».proof.Defs
public import proofs.«01_k».proof.Proof.Gen.Kernel
public import proofs.«01_k».proof.Proof.Launch

@[expose] public section

noncomputable section

namespace Cert.Proof

open Idealize.ShloMosaic Idealize.SL.Sem

/-- What a run of the one text keeps, over any float values. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Run.run_main m ρ)

/-- The kernel over extended reals. -/
theorem frame_ideal : Cert.quiescent_KernelIdeal := fun m ρ _ => kept m ρ

/-- The two programs' body tables are one: the label's one value and its argument taken apart, the bodies agree. -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- So are their tables with the call's region and pipeline added. -/
theorem same_defs : Cert.Kernel.defs (F := Bits) = Cert.KernelIdeal.defs (F := Bits) := by
  unfold Cert.Kernel.defs Cert.KernelIdeal.defs
  rw [same_bodies]
  rfl

/-- The kernel over the machine's floats. -/
theorem frame_kernel : Cert.quiescent_Kernel := fun m ρ _ => by
  rw [same_defs]
  exact kept (F := Bits) m ρ

end Cert.Proof

end
-- ==== Proof.Attend.lean ====
/- The mathematics, apart from any program: one column of multi-head attention over a block of 512 rows, the product of
   all columns with the output weights, and that product cut into eight groups of columns. A head is 128 columns, so the
   groups of 1024 columns are whole heads. -/
module

public import Idealize.ShloMosaic.Lib.Pointwise

@[expose] public section

noncomputable section

namespace Cert.Attend

open Idealize.ShloMosaic

/-- The factor of the products of queries and keys, and the value below which no maximum falls. -/
def scale : EReal := Ideal.ofBits .f32 0x3DB504F3#32
def low : EReal := Ideal.ofBits .f32 0xFF800000#32

/-- The scaled product of the query of row `i` and the key of row `j`. -/
def score (q k : Fin 512 → Fin 128 → EReal) (i j : Fin 512) : EReal := (∑ e : Fin 128, q i e * k j e) * scale

/-- The largest score of row `i`. -/
def peak (q k : Fin 512 → Fin 128 → EReal) (i : Fin 512) : EReal := Finset.univ.fold max low fun j => score q k i j

/-- The weight, not yet normalised, of row `j` for row `i`. -/
def weight (q k : Fin 512 → Fin 128 → EReal) (i j : Fin 512) : EReal := Ideal.exp (score q k i j - peak q k i)

/-- The weighted mean of the values `v` for row `i`. -/
def mix (q k : Fin 512 → Fin 128 → EReal) (v : Fin 512 → EReal) (i : Fin 512) : EReal :=
  Ideal.div (∑ j : Fin 512, weight q k i j * v j) (∑ j : Fin 512, weight q k i j)

/-- A maximum of `low` with the largest score is the largest score. -/
theorem max_peak (q k : Fin 512 → Fin 128 → EReal) (i : Fin 512) : max low (peak q k i) = peak q k i :=
  max_eq_right ((Finset.le_fold_max low).2 (.inl le_rfl))

variable {n : ℕ}

/-- Column `e` of the head that column `C` belongs to. -/
def mate (h : 128 ∣ n) (C : Fin n) (e : Fin 128) : Fin n :=
  ⟨C.val / 128 * 128 + e.val, by obtain ⟨b, rfl⟩ := h; have := C.isLt; have := e.isLt; omega⟩

/-- Row `i` of the block times column `C` of a weight matrix. -/
def line (X : Fin 512 → Fin 1024 → EReal) (W : Fin 1024 → Fin n → EReal) (i : Fin 512) (C : Fin n) : EReal :=
  ∑ k : Fin 1024, X i k * W k C

/-- Column `C` of the attention of the block, row `i`. -/
def column (h : 128 ∣ n) (X : Fin 512 → Fin 1024 → EReal) (Wq Wk Wv : Fin 1024 → Fin n → EReal) (i : Fin 512) (C : Fin n) : EReal :=
  mix (fun a e => line X Wq a (mate h C e)) (fun a e => line X Wk a (mate h C e)) (fun a => line X Wv a C) i

/-- The attention of the block times the output weights. -/
def share (h : 128 ∣ n) (X : Fin 512 → Fin 1024 → EReal) (Wq Wk Wv : Fin 1024 → Fin n → EReal) (Wo : Fin n → Fin 1024 → EReal)
    (i : Fin 512) (j : Fin 1024) : EReal :=
  ∑ C : Fin n, column h X Wq Wk Wv i C * Wo C j

theorem div_small : 128 ∣ 1024 := ⟨8, rfl⟩
theorem div_large : 128 ∣ 8192 := ⟨64, rfl⟩

/-- Column `C` of group `d`. -/
def place (d : Fin 8) (C : Fin 1024) : Fin 8192 := ⟨d.val * 1024 + C.val, by have := d.isLt; have := C.isLt; omega⟩

/-- A head of a group is a head of the whole. -/
theorem mate_place (d : Fin 8) (C : Fin 1024) (e : Fin 128) : mate div_large (place d C) e = place d (mate div_small C e) := by
  apply Fin.ext
  show (d.val * 1024 + C.val) / 128 * 128 + e.val = d.val * 1024 + (C.val / 128 * 128 + e.val)
  omega

/-- A column of a group's attention is that column of the whole attention. -/
theorem column_place (X : Fin 512 → Fin 1024 → EReal) (Wq Wk Wv : Fin 1024 → Fin 8192 → EReal) (i : Fin 512) (d : Fin 8) (C : Fin 1024) :
    column div_large X Wq Wk Wv i (place d C)
      = column div_small X (fun k C => Wq k (place d C)) (fun k C => Wk k (place d C)) (fun k C => Wv k (place d C)) i C := by
  unfold column line
  simp only [mate_place]

/-- A sum over all columns is the sum over the groups of the sums over their columns. -/
theorem sum_place (f : Fin 8192 → EReal) : ∑ C : Fin 8192, f C = ∑ d : Fin 8, ∑ C : Fin 1024, f (place d C) := by
  rw [← Finset.sum_product', ← (Equiv.sum_comp (finProdFinEquiv : Fin 8 × Fin 1024 ≃ Fin (8 * 1024)) f), Finset.univ_product_univ]
  refine Finset.sum_congr rfl fun p _ => congrArg f (Fin.ext ?_)
  show p.2.val + 1024 * p.1.val = p.1.val * 1024 + p.2.val
  omega

/-- The whole product is the sum of the groups' products. -/
theorem share_cut (X : Fin 512 → Fin 1024 → EReal) (Wq Wk Wv : Fin 1024 → Fin 8192 → EReal) (Wo : Fin 8192 → Fin 1024 → EReal)
    (i : Fin 512) (j : Fin 1024) :
    share div_large X Wq Wk Wv Wo i j
      = ∑ d : Fin 8, share div_small X (fun k C => Wq k (place d C)) (fun k C => Wk k (place d C)) (fun k C => Wv k (place d C))
          (fun C j => Wo (place d C) j) i j := by
  unfold share
  rw [sum_place]
  exact Finset.sum_congr rfl fun d _ => Finset.sum_congr rfl fun C _ => by rw [column_place]

end Cert.Attend

end
-- ==== Proof.Values.lean ====
/- What the kernel's result holds over extended reals, index by index: one device's share of a block is the product of its
   eight heads' attention with its rows of the output weights, and a device's result is the sum of all devices' shares. -/
module

public import proofs.«01_k».proof.Proof.Protocol
public import proofs.«01_k».proof.Proof.Attend
public import Idealize.ShloMosaic.Lib.Pipeline.ValueKit.Point

@[expose] public section

set_option maxRecDepth 16384

noncomputable section

namespace Cert.KernelIdeal.Run

open Idealize.ShloMosaic Idealize.ShloMosaic.TcCoe
open Idealize.SL.Sem
open Facts₀ Facts
open Cert.Attend

/-! ## One device's share of one block -/

/-- The rows and columns of an array of two axes. -/
abbrev grid2 {a b : ℕ} {φ : FTy} (x : FVec Ideal ⟨2, ![a, b]⟩ φ) (i : Fin a) (j : Fin b) : EReal := x (ix2 i j)

/-- A block's product with a weight matrix, read at an index. -/
theorem proj_at (x : FVec Ideal S512x1024 .bf16) (w : FVec Ideal S1024x1024 .bf16) (i : Fin 512) (j : Fin 1024) :
    proj x w (ix2 i j) = line (grid2 x) (grid2 w) i j := by
  pointwise [proj, line, grid2]

/-- A head's 128 columns, from column `o`. -/
theorem slice_at (x : FVec Ideal S512x1024 .bf16) (o : ℕ) (h : S512x1024.Slices ![0, o] S512x128) (ho : o + 128 ≤ 1024)
    (i : Fin 512) (e : Fin 128) : extractStridedSlice S512x128 ![0, o] x h (ix2 i e) = x (ix2 i ⟨o + e.val, by omega⟩) := by
  pointwise

/-- One head, read at an index: the weighted mean of its values. -/
theorem head_at (q k v : FVec Ideal S512x1024 .bf16) (o : ℕ) (h : S512x1024.Slices ![0, o] S512x128) (ho : o + 128 ≤ 1024)
    (i : Fin 512) (e : Fin 128) :
    head q k v ![0, o] h (ix2 i e) = mix (fun a b => q (ix2 a ⟨o + b.val, by omega⟩)) (fun a b => k (ix2 a ⟨o + b.val, by omega⟩))
      (fun a => v (ix2 a ⟨o + e.val, by omega⟩)) i := by
  simp only [← slice_at _ o h ho]
  unfold head
  generalize extractStridedSlice S512x128 ![0, o] q h = q'
  generalize extractStridedSlice S512x128 ![0, o] k h = k'
  generalize extractStridedSlice S512x128 ![0, o] v h = v'
  pointwise [mix, weight, peak, score, scale, low]

/-- The heads side by side, read at column `e` of head `g`. -/
theorem heads_at (q k v : FVec Ideal S512x1024 .bf16) (i : Fin 512) (g : Fin 8) (e : Fin 128) :
    heads q k v (ix2 i ⟨128 * g.val + e.val, by omega⟩)
      = mix (fun a b => q (ix2 a ⟨128 * g.val + b.val, by omega⟩)) (fun a b => k (ix2 a ⟨128 * g.val + b.val, by omega⟩))
        (fun a => v (ix2 a ⟨128 * g.val + e.val, by omega⟩)) i := by
  pointwise [heads]
  have he := e.isLt
  fin_vals g with hg
  all_goals
    repeat rw [dif_neg (by omega)]
    try rw [dif_pos (by omega)]
    rw [head_at _ _ _ _ _ (by omega)]
    simp only [hg, Nat.sub_sub, Nat.reduceAdd, Nat.reduceMul, Nat.add_sub_cancel_left, Nat.zero_add]

/-- The heads side by side on a block and weights, read at column `C`. -/
theorem heads_column (x : FVec Ideal S512x1024 .bf16) (wq wk wv : FVec Ideal S1024x1024 .bf16) (i : Fin 512) (C : Fin 1024) :
    heads (proj x wq) (proj x wk) (proj x wv) (ix2 i C) = column div_small (grid2 x) (grid2 wq) (grid2 wk) (grid2 wv) i C := by
  have hC : C = (⟨128 * (⟨C.val / 128, by omega⟩ : Fin 8).val + (⟨C.val % 128, by omega⟩ : Fin 128).val, by dsimp only; omega⟩ : Fin 1024) :=
    Fin.ext (by show C.val = 128 * (C.val / 128) + C.val % 128; omega)
  have hM (b : Fin 128) : (⟨128 * (C.val / 128) + b.val, by omega⟩ : Fin 1024) = mate div_small C b :=
    Fin.ext (by show 128 * (C.val / 128) + b.val = C.val / 128 * 128 + b.val; omega)
  conv_lhs => rw [hC]
  rw [heads_at]
  simp only [proj_at, hM]
  unfold column
  rw [← hC]

/-- One device's share of a block, read at an index. -/
theorem part_at (x : FVec Ideal S512x1024 .bf16) (wq wk wv wo : FVec Ideal S1024x1024 .bf16) (i : Fin 512) (j : Fin 1024) :
    part x wq wk wv wo (ix2 i j) = share div_small (grid2 x) (grid2 wq) (grid2 wk) (grid2 wv) (grid2 wo) i j := by
  unfold part share
  simp only [← heads_column]
  generalize heads (proj x wq) (proj x wk) (proj x wv) = y
  pointwise

/-! ## The blocks and weights -/

variable (m : (ℓ : Loc nD τ sig) → Buf (Elt Ideal) ℓ)

/-- The one point's block of each of the call's arguments is at the origin. -/
theorem origin_0 : win0_0.index Gen.t0_0 = ![0, 0] := by decide +kernel
theorem origin_1 : win0_1.index Gen.t0_0 = ![0, 0] := by decide +kernel
theorem origin_2 : win0_2.index Gen.t0_0 = ![0, 0] := by decide +kernel

/-- The call's arguments as they are read. -/
theorem X0_at (c : Dev nD) (i : Fin 512) (j : Fin 1024) : X0 m c (ix2 i j) = (Gen.V m c main_v2 : Vec Ideal S512x1024 .bf16) (ix2 i j) := by
  unfold X0
  blk_ext [Gen.iblk, origin_0]
theorem X1_at (c : Dev nD) (i : Fin 1024) (j : Fin 3072) : X1 m c (ix2 i j) = (Gen.V m c main_v4 : Vec Ideal S1024x3072 .bf16) (ix2 i j) := by
  unfold X1
  blk_ext [Gen.iblk, origin_1]
theorem X2_at (c : Dev nD) (i : Fin 1024) (j : Fin 1024) : X2 m c (ix2 i j) = (Gen.V m c main_v5 : Vec Ideal S1024x1024 .bf16) (ix2 i j) := by
  unfold X2
  blk_ext [Gen.iblk, origin_2]

/-- A device's block of the input. -/
theorem xb_at (c : Dev nD) (i : Fin 512) (j : Fin 1024) :
    xb m c (ix2 i j) = (m (c.tc.loc main_arg0) : Vec Ideal S1x512x1024 .f32) (ix3 0 i j) := by
  have h : xb m c (ix2 i j) = X0 m c (ix2 i j) := by
    pointwise [xb]
    blk_ext
  rw [h, X0_at]
  entry_read
  pointwise

/-- The three input weights side by side, as the call is given them. -/
theorem joined_at (c : Dev nD) (i : Fin 1024) (j : Fin 3072) : X1 m c (ix2 i j)
    = if h : j.val < 1024 then (m (c.tc.loc main_arg1) : Vec Ideal S1024x1024 .f32) (ix2 i ⟨j.val, h⟩)
      else if h : j.val - 1024 < 1024 then (m (c.tc.loc main_arg2) : Vec Ideal S1024x1024 .f32) (ix2 i ⟨j.val - 1024, h⟩)
      else (m (c.tc.loc main_arg3) : Vec Ideal S1024x1024 .f32) (ix2 i ⟨j.val - 1024 - 1024, by omega⟩) := by
  rw [X1_at]
  entry_read
  pointwise

/-- A device's weights. -/
theorem wq_at (c : Dev nD) (i j : Fin 1024) : wq m c (ix2 i j) = (m (c.tc.loc main_arg1) : Vec Ideal S1024x1024 .f32) (ix2 i j) := by
  have h : wq m c (ix2 i j) = X1 m c (ix2 i ⟨j.val, by omega⟩) := by
    unfold wq
    blk_ext
  rw [h, joined_at, dif_pos j.isLt]
theorem wk_at (c : Dev nD) (i j : Fin 1024) : wk m c (ix2 i j) = (m (c.tc.loc main_arg2) : Vec Ideal S1024x1024 .f32) (ix2 i j) := by
  have h : wk m c (ix2 i j) = X1 m c (ix2 i ⟨1024 + j.val, by omega⟩) := by
    unfold wk
    blk_ext
  rw [h, joined_at, dif_neg (by dsimp only; omega), dif_pos (by dsimp only; omega)]
  blk_ext
theorem wv_at (c : Dev nD) (i j : Fin 1024) : wv m c (ix2 i j) = (m (c.tc.loc main_arg3) : Vec Ideal S1024x1024 .f32) (ix2 i j) := by
  have h : wv m c (ix2 i j) = X1 m c (ix2 i ⟨2048 + j.val, by omega⟩) := by
    unfold wv
    blk_ext
  rw [h, joined_at, dif_neg (by dsimp only; omega), dif_neg (by dsimp only; omega)]
  blk_ext
theorem wo_at (c : Dev nD) (i j : Fin 1024) : wo m c (ix2 i j) = (m (c.tc.loc main_arg4) : Vec Ideal S1024x1024 .f32) (ix2 i j) := by
  have h : wo m c (ix2 i j) = X2 m c (ix2 i j) := by
    unfold wo
    blk_ext
  rw [h, X2_at]
  entry_read
  pointwise

/-! ## The result -/

/-- The share of device `d` in the result for device `g`'s block, from the arguments. -/
def shareOf (d g : Dev nD) (i : Fin 512) (j : Fin 1024) : EReal :=
  share div_small (fun a b => (m (g.tc.loc main_arg0) : Vec Ideal S1x512x1024 .f32) (ix3 0 a b))
    (fun a b => (m (d.tc.loc main_arg1) : Vec Ideal S1024x1024 .f32) (ix2 a b))
    (fun a b => (m (d.tc.loc main_arg2) : Vec Ideal S1024x1024 .f32) (ix2 a b))
    (fun a b => (m (d.tc.loc main_arg3) : Vec Ideal S1024x1024 .f32) (ix2 a b))
    (fun a b => (m (d.tc.loc main_arg4) : Vec Ideal S1024x1024 .f32) (ix2 a b)) i j

/-- What a device computes on a block is its share. -/
theorem own_at (d g : Dev nD) (i : Fin 512) (j : Fin 1024) : own m d g (ix2 i j) = shareOf m d g i j := by
  unfold own shareOf
  refine (part_at (xb m g) (wq m d) (wk m d) (wv m d) (wo m d) i j).trans ?_
  have hx : grid2 (xb m g) = fun a b => (m (g.tc.loc main_arg0) : Vec Ideal S1x512x1024 .f32) (ix3 0 a b) :=
    funext fun a => funext fun b => xb_at m g a b
  have hq : grid2 (φ := .bf16) (wq m d) = fun a b => (m (d.tc.loc main_arg1) : Vec Ideal S1024x1024 .f32) (ix2 a b) :=
    funext fun a => funext fun b => wq_at m d a b
  have hk : grid2 (φ := .bf16) (wk m d) = fun a b => (m (d.tc.loc main_arg2) : Vec Ideal S1024x1024 .f32) (ix2 a b) :=
    funext fun a => funext fun b => wk_at m d a b
  have hv : grid2 (φ := .bf16) (wv m d) = fun a b => (m (d.tc.loc main_arg3) : Vec Ideal S1024x1024 .f32) (ix2 a b) :=
    funext fun a => funext fun b => wv_at m d a b
  have ho : grid2 (φ := .bf16) (wo m d) = fun a b => (m (d.tc.loc main_arg4) : Vec Ideal S1024x1024 .f32) (ix2 a b) :=
    funext fun a => funext fun b => wo_at m d a b
  rw [hx, hq, hk, hv, ho]

/-- As it travels it is the same. -/
theorem pt_at (d g : Dev nD) (i : Fin 512) (j : Fin 1024) : pt m d g (ix2 i j) = shareOf m d g i j := own_at m d g i j

/-- Adding what travels, and adding it to the total, add. -/
theorem addB_at (x y : FVec Ideal S512x1024 .bf16) (i : Fin 512) (j : Fin 1024) : addB x y (ix2 i j) = (x (ix2 i j) + y (ix2 i j) : EReal) := by
  pointwise [addB]
theorem accB_at (t : FVec Ideal S512x1024 .f32) (y : FVec Ideal S512x1024 .bf16) (i : Fin 512) (j : Fin 1024) :
    accB t y (ix2 i j) = (t (ix2 i j) + y (ix2 i j) : EReal) := by
  pointwise [accB]

/-- The masks reach every device once. -/
theorem masks_all (c : Dev nD) : Function.Bijective fun k : Fin 8 => dx c k.val := by revert c; decide +kernel

/-- A sum over the devices is a sum over the masks. -/
theorem sum_masks (c : Dev nD) (f : Dev nD → EReal) : ∑ d : Fin 8, f d = ∑ k : Fin 8, f (dx c k.val) :=
  ((Equiv.ofBijective _ (masks_all c)).sum_comp f).symm

/-- A device's result is the sum of all devices' shares of its block. -/
theorem result_at (c : Dev nD) (i : Fin 512) (j : Fin 1024) : result m c (ix2 i j) = ∑ d : Fin 8, shareOf m d c i j := by
  rw [sum_masks c, Fin.sum_univ_eight]
  unfold result
  rw [accB_at, accB_at, accB_at, accB_at, own_at]
  unfold landing
  simp only [addB_at, pt_at]
  show _ = shareOf m (dx c 0) c i j + shareOf m (dx c 1) c i j + shareOf m (dx c 2) c i j + shareOf m (dx c 3) c i j
    + shareOf m (dx c 4) c i j + shareOf m (dx c 5) c i j + shareOf m (dx c 6) c i j + shareOf m (dx c 7) c i j
  rw [dx_0]
  abel

end Cert.KernelIdeal.Run

end
-- ==== Proof.Reference.lean ====
/- What the reference's result holds over extended reals, index by index: the attention of all sixty-four heads times the
   output weights. Its loop over the keys has one step, from a maximum of −∞, a sum of 0 and a mean of 0. -/
module

public import proofs.«01_k».proof.Proof.Gen.ReferenceIdeal.Run
public import proofs.«01_k».proof.Proof.Attend

@[expose] public section

set_option maxRecDepth 16384

noncomputable section

namespace Cert.ReferenceIdeal.Value

open Idealize.ShloMosaic Idealize.ShloMosaic.TcCoe
open Idealize.SL.Sem
open Cert.ReferenceIdeal.Gen
open Cert.Attend

/-! ## The stages -/

/-- The block times a weight matrix, its columns grouped by heads. -/
def lin (x : FVec Ideal S8x512x1024 .f32) (w : FVec Ideal S1024x8192 .f32) : FVec Ideal S8x512x64x128 .f32 :=
  shapeCast S8x512x64x128 (Host.dotGeneral dot_S8x512x1024_S1024x8192_S8x512x8192_2_0_01_1_n_n none x w) shapeCasts_S8x512x8192_S8x512x64x128

/-- The scaled products of queries and keys. -/
def scores (q k : FVec Ideal S8x512x64x128 .f32) : FVec Ideal S8x64x512x512 .f32 :=
  mulf (Host.dotGeneral dot_S8x512x64x128_S8x512x64x128_S8x64x512x512_3_3_1_1_02_02 none q k)
    (broadcastInDim S8x64x512x512 ![] bcast_S_S8x64x512x512 (constant S_ .f32 0x3DB504F3#32))

/-- The maximum so far before the step, and after it. -/
def start : FVec Ideal S8x64x512x1 .f32 := broadcastInDim S8x64x512x1 ![] bcast_S_S8x64x512x1 (constant S_ .f32 0xFF800000#32)
def tops (s : FVec Ideal S8x64x512x512 .f32) : FVec Ideal S8x64x512x1 .f32 :=
  maximumf start (broadcastInDim S8x64x512x1 ![0, 1, 2] bcast_S8x64x512_S8x64x512x1_0_1_2
    (Host.reduce FloatOps.maximumf s (constant S_ .f32 0xFF800000#32) reducesTo_S8x64x512x512_S8x64x512_d3 h_S_))

/-- The factor of what was summed before the step. -/
def fade (s : FVec Ideal S8x64x512x512 .f32) : FVec Ideal S8x64x512x1 .f32 := Host.exp (subf start (tops s))

/-- The step's weights. -/
def weights (s : FVec Ideal S8x64x512x512 .f32) : FVec Ideal S8x64x512x512 .f32 :=
  Host.exp (subf s (broadcastInDim S8x64x512x512 ![0, 1, 2, 3] bcast_S8x64x512x1_S8x64x512x512_0_1_2_3 (tops s)))

/-- The sum of the weights after the step. -/
def total (s : FVec Ideal S8x64x512x512 .f32) : FVec Ideal S8x64x512x1 .f32 :=
  addf (mulf (broadcastInDim S8x64x512x1 ![] bcast_S_S8x64x512x1 (constant S_ .f32 0x00000000#32)) (fade s))
    (broadcastInDim S8x64x512x1 ![0, 1, 2] bcast_S8x64x512_S8x64x512x1_0_1_2
      (Host.reduceAdd (weights s) (constant S_ .f32 0x00000000#32) reducesTo_S8x64x512x512_S8x64x512_d3 h_S_))

/-- The weighted sum of the values after the step. -/
def summed (v : FVec Ideal S8x512x64x128 .f32) (s : FVec Ideal S8x64x512x512 .f32) : FVec Ideal S8x512x64x128 .f32 :=
  addf (mulf (broadcastInDim S8x512x64x128 ![] bcast_S_S8x512x64x128 (constant S_ .f32 0x00000000#32))
      (broadcastInDim S8x512x64x128 ![0, 1, 2, 3] bcast_S8x512x64x1_S8x512x64x128_0_1_2_3
        (transpose S8x512x64x1 [0, 2, 1, 3] (fade s) transposes_S8x64x512x1_S8x512x64x1_0_2_1_3)))
    (transpose S8x512x64x128 [0, 3, 1, 2]
      (Host.dotGeneral dot_S8x512x64x128_S8x64x512x512_S8x64x128x512_1_3_3_2_02_01 none v (weights s))
      transposes_S8x64x128x512_S8x512x64x128_0_3_1_2)

/-- The attention. -/
def mean (v : FVec Ideal S8x512x64x128 .f32) (s : FVec Ideal S8x64x512x512 .f32) : FVec Ideal S8x512x64x128 .f32 :=
  Host.divf (summed v s) (broadcastInDim S8x512x64x128 ![0, 1, 2, 3] bcast_S8x512x64x1_S8x512x64x128_0_1_2_3
    (transpose S8x512x64x1 [0, 2, 1, 3] (total s) transposes_S8x64x512x1_S8x512x64x1_0_2_1_3))

/-- The attention times the output weights. -/
def final (y : FVec Ideal S8x512x64x128 .f32) (w : FVec Ideal S8192x1024 .f32) : FVec Ideal S8x512x1024 .f32 :=
  Host.dotGeneral dot_S8x512x8192_S8192x1024_S8x512x1024_2_0_01_1_n_n none
    (shapeCast S8x512x8192 y shapeCasts_S8x512x64x128_S8x512x8192) w

/-- The reference's result is its stages, composed. -/
theorem staged (m : (ℓ : Loc nD τ sig) → Buf (Elt Ideal) ℓ) (c : Dev nD) :
    res_out0 m c = final (mean (lin (m (c.tc.loc main_arg0)) (m (c.tc.loc main_arg3)))
      (scores (lin (m (c.tc.loc main_arg0)) (m (c.tc.loc main_arg1))) (lin (m (c.tc.loc main_arg0)) (m (c.tc.loc main_arg2)))))
      (m (c.tc.loc main_arg4)) := by
  unfold res_out0 res_main_v34
  rfl

/-! ## The stages at an index -/

theorem lin_at (x : FVec Ideal S8x512x1024 .f32) (w : FVec Ideal S1024x8192 .f32) (a : Fin 8) (i : Fin 512) (h : Fin 64) (e : Fin 128) :
    lin x w (ix4 a i h e) = line (fun r k => x (ix3 a r k)) (fun k C => w (ix2 k C)) i ⟨h.val * 128 + e.val, by omega⟩ := by
  pointwise [lin, line]

/-- Head `h` of block `a`: its rows and columns. -/
abbrev pick (q : FVec Ideal S8x512x64x128 .f32) (a : Fin 8) (h : Fin 64) (i : Fin 512) (e : Fin 128) : EReal := q (ix4 a i h e)

theorem scores_at (q k : FVec Ideal S8x512x64x128 .f32) (a : Fin 8) (h : Fin 64) (i j : Fin 512) :
    scores q k (ix4 a h i j) = score (pick q a h) (pick k a h) i j := by
  pointwise [scores, score, pick, scale]

/-- The largest of a row, taken along the last axis. -/
theorem rowMax_at (s : FVec Ideal S8x64x512x512 .f32) (b : FVec Ideal S_ .f32) (a : Fin 8) (h : Fin 64) (i : Fin 512) :
    Host.reduce FloatOps.maximumf s b reducesTo_S8x64x512x512_S8x64x512_d3 h_S_ (ix3 a h i)
      = Finset.univ.fold (FloatOps.maximumf (F := Ideal) (φ := .f32)) (b (Shape.Idx.first h_S_)) fun j : Fin 512 => s (ix4 a h i j) :=
  (Host.reduce_eq_fold (FloatOps.maximumf (F := Ideal) (φ := .f32)) s b reducesTo_S8x64x512x512_S8x64x512_d3 h_S_ (ix3 a h i)).trans
    (Shape.ReducesTo.fold_fiber_r4_a3 reducesTo_S8x64x512x512_S8x64x512_d3 (ix3 a h i) (FloatOps.maximumf (F := Ideal) (φ := .f32)) _ s)

/-- A column of values, one for each row, against the maximum before the step. -/
theorem start_at (r : FVec Ideal S8x64x512 .f32) (a : Fin 8) (h : Fin 64) (i : Fin 512) :
    maximumf start (broadcastInDim S8x64x512x1 ![0, 1, 2] bcast_S8x64x512_S8x64x512x1_0_1_2 r) (ix4 a h i 0)
      = max low (r (ix3 a h i)) := by
  pointwise [start, low]

/-- The fold of a row from −∞ is the largest of its scores. -/
theorem fold_at (q k : FVec Ideal S8x512x64x128 .f32) (a : Fin 8) (h : Fin 64) (i : Fin 512) (b : EReal) (hb : b = low) :
    Finset.univ.fold (FloatOps.maximumf (F := Ideal) (φ := .f32)) b (fun j : Fin 512 => scores q k (ix4 a h i j))
      = peak (pick q a h) (pick k a h) i := by
  simp only [scores_at]
  subst hb
  simp only [Ideal.maximumf_eq_max]
  unfold peak
  congr

/-- The step's maximum is the largest score of the row. -/
theorem tops_at (q k : FVec Ideal S8x512x64x128 .f32) (a : Fin 8) (h : Fin 64) (i : Fin 512) :
    tops (scores q k) (ix4 a h i 0) = peak (pick q a h) (pick k a h) i := by
  have hm := (rowMax_at (scores q k) (constant S_ .f32 0xFF800000#32) a h i).trans (fold_at q k a h i _ rfl)
  unfold tops
  rw [start_at, hm, max_peak]

theorem weights_at (q k : FVec Ideal S8x512x64x128 .f32) (a : Fin 8) (h : Fin 64) (i j : Fin 512) :
    weights (scores q k) (ix4 a h i j) = weight (pick q a h) (pick k a h) i j := by
  unfold weight
  rw [← tops_at, ← scores_at]
  generalize scores q k = s
  unfold weights
  generalize tops s = t
  pointwise

theorem total_at (q k : FVec Ideal S8x512x64x128 .f32) (a : Fin 8) (h : Fin 64) (i : Fin 512) :
    total (scores q k) (ix4 a h i 0) = ∑ j : Fin 512, weight (pick q a h) (pick k a h) i j := by
  simp only [← weights_at]
  generalize scores q k = s
  unfold total
  generalize fade s = f
  generalize weights s = w
  pointwise
  exact (congrArg (· + _) (zero_mul _)).trans (zero_add _)

theorem summed_at (v q k : FVec Ideal S8x512x64x128 .f32) (a : Fin 8) (h : Fin 64) (i : Fin 512) (e : Fin 128) :
    summed v (scores q k) (ix4 a i h e) = ∑ j : Fin 512, weight (pick q a h) (pick k a h) i j * pick v a h j e := by
  simp only [← weights_at]
  generalize scores q k = s
  unfold summed
  generalize fade s = f
  generalize weights s = w
  pointwise
  exact ((congrArg (· + _) (zero_mul _)).trans (zero_add _)).trans (Finset.sum_congr rfl fun j _ => mul_comm _ _)

theorem mean_at (v q k : FVec Ideal S8x512x64x128 .f32) (a : Fin 8) (h : Fin 64) (i : Fin 512) (e : Fin 128) :
    mean v (scores q k) (ix4 a i h e) = mix (pick q a h) (pick k a h) (fun j => pick v a h j e) i := by
  unfold mix
  rw [← summed_at, ← total_at]
  generalize scores q k = s
  unfold mean
  generalize summed v s = y
  generalize total s = t
  pointwise

theorem final_at (y : FVec Ideal S8x512x64x128 .f32) (w : FVec Ideal S8192x1024 .f32) (a : Fin 8) (i : Fin 512) (j : Fin 1024) :
    final y w (ix3 a i j) = ∑ C : Fin 8192, (y (ix4 a i ⟨C.val / 128, by omega⟩ ⟨C.val % 128, by omega⟩) : EReal) * w (ix2 C j) := by
  pointwise [final]

/-- The composed stages, read at row `i` and column `j` of block `a`. -/
theorem stages_at (x : FVec Ideal S8x512x1024 .f32) (wq wk wv : FVec Ideal S1024x8192 .f32) (wo : FVec Ideal S8192x1024 .f32)
    (a : Fin 8) (i : Fin 512) (j : Fin 1024) :
    final (mean (lin x wv) (scores (lin x wq) (lin x wk))) wo (ix3 a i j)
      = share div_large (fun r k => x (ix3 a r k)) (fun k C => wq (ix2 k C)) (fun k C => wk (ix2 k C)) (fun k C => wv (ix2 k C))
        (fun C j => wo (ix2 C j)) i j := by
  rw [final_at]
  unfold share
  refine Finset.sum_congr rfl fun C _ => ?_
  have hC : (⟨C.val / 128 * 128 + C.val % 128, by omega⟩ : Fin 8192) = C := Fin.ext (by show C.val / 128 * 128 + C.val % 128 = C.val; omega)
  have hp (w : FVec Ideal S1024x8192 .f32) : pick (lin x w) a ⟨C.val / 128, by omega⟩
      = fun r e => line (fun r k => x (ix3 a r k)) (fun k C => w (ix2 k C)) r (mate div_large C e) :=
    funext fun r => funext fun e => lin_at x w a r _ e
  have hv : (fun r => pick (lin x wv) a ⟨C.val / 128, by omega⟩ r ⟨C.val % 128, by omega⟩)
      = fun r => line (fun r k => x (ix3 a r k)) (fun k C => wv (ix2 k C)) r C :=
    funext fun r => (lin_at x wv a r _ _).trans (by rw [hC])
  rw [mean_at, hp, hp, hv]
  rfl

/-- The reference's result, read at row `i` and column `j` of block `a`. -/
theorem result_at (m : (ℓ : Loc nD τ sig) → Buf (Elt Ideal) ℓ) (c : Dev nD) (a : Fin 8) (i : Fin 512) (j : Fin 1024) :
    (res_out0 m c : FVec Ideal S8x512x1024 .f32) (ix3 a i j)
      = share div_large (fun r k => (m (c.tc.loc main_arg0) : Vec Ideal S8x512x1024 .f32) (ix3 a r k))
        (fun k C => (m (c.tc.loc main_arg1) : Vec Ideal S1024x8192 .f32) (ix2 k C))
        (fun k C => (m (c.tc.loc main_arg2) : Vec Ideal S1024x8192 .f32) (ix2 k C))
        (fun k C => (m (c.tc.loc main_arg3) : Vec Ideal S1024x8192 .f32) (ix2 k C))
        (fun C j => (m (c.tc.loc main_arg4) : Vec Ideal S8192x1024 .f32) (ix2 C j)) i j := by
  rw [staged]
  exact stages_at _ _ _ _ _ a i j

end Cert.ReferenceIdeal.Value

end
-- ==== Proof.Equation.lean ====
/- The equation of the two programs over extended reals: each device ends with its block of rows of the reference's result,
   where each device's weights are its group of columns (or, of the output weights, rows) of the reference's. -/
module

public import proofs.«01_k».proof.Defs
public import proofs.«01_k».proof.Proof.Launch
public import proofs.«01_k».proof.Proof.Values
public import proofs.«01_k».proof.Proof.Reference
public import Idealize.ShloMosaic.Lib.LayoutAt

@[expose] public section

set_option maxRecDepth 16384

noncomputable section

namespace Cert.Proof

open Idealize.ShloMosaic Idealize.ShloMosaic.TcCoe
open Idealize.SL.Sem
open Cert.Attend

/-- Row `i`, column `k` of block `c` of eight blocks is row `i`, column `k` of a device's only block. -/
theorem rows_at {α : Type} (X : (⟨3, ![8, 512, 1024]⟩ : Shape).Idx → α) (c : Fin 8) (i : Fin 512) (k : Fin 1024) :
    Layout.block ⟨3, ![1, 512, 1024]⟩ ⟨3, ![8, 512, 1024]⟩ 0 8 c X (by decide) (ix3 0 i k) = X (ix3 c i k) := by
  shard_ext

/-- Column `C` of device `c`'s weights is column `C` of its group. -/
theorem columns_at {α : Type} (W : (⟨2, ![1024, 8192]⟩ : Shape).Idx → α) (c : Fin 8) (k C : Fin 1024) :
    Layout.block ⟨2, ![1024, 1024]⟩ ⟨2, ![1024, 8192]⟩ 1 8 c W (by decide) (ix2 k C) = W (ix2 k (place c C)) := by
  unfold place
  shard_ext

/-- Row `C` of device `c`'s output weights is row `C` of its group. -/
theorem outs_at {α : Type} (W : (⟨2, ![8192, 1024]⟩ : Shape).Idx → α) (c : Fin 8) (C j : Fin 1024) :
    Layout.block ⟨2, ![1024, 1024]⟩ ⟨2, ![8192, 1024]⟩ 0 8 c W (by decide) (ix2 C j) = W (ix2 (place c C) j) := by
  unfold place
  shard_ext

/-- A plane read as a stack of one. -/
theorem up_at (x : Vec Ideal Cert.KernelIdeal.S512x1024 .f32) (i : Fin 512) (j : Fin 1024) :
    (Cert.KernelIdeal.Run.up x : Vec Ideal Cert.KernelIdeal.S1x512x1024 .f32) (ix3 0 i j) = x (ix2 i j) := by
  pointwise [Cert.KernelIdeal.Run.up]

/-- A device's share of block `c`'s result, of the whole weights. -/
theorem shareOf_eq (m : (ℓ : Loc Cert.KernelIdeal.nD Cert.KernelIdeal.τ Cert.KernelIdeal.sig) → Buf (Elt Ideal) ℓ)
    (X : (⟨3, ![8, 512, 1024]⟩ : Shape).Idx → EReal) (Wq Wk Wv : (⟨2, ![1024, 8192]⟩ : Shape).Idx → EReal)
    (Wo : (⟨2, ![8192, 1024]⟩ : Shape).Idx → EReal) (d c : Dev Cert.KernelIdeal.nD)
    (h0 : m (c.tc.loc Cert.KernelIdeal.main_arg0) = Layout.block ⟨3, ![1, 512, 1024]⟩ ⟨3, ![8, 512, 1024]⟩ 0 8 c X)
    (h1 : m (d.tc.loc Cert.KernelIdeal.main_arg1) = Layout.block ⟨2, ![1024, 1024]⟩ ⟨2, ![1024, 8192]⟩ 1 8 d Wq)
    (h2 : m (d.tc.loc Cert.KernelIdeal.main_arg2) = Layout.block ⟨2, ![1024, 1024]⟩ ⟨2, ![1024, 8192]⟩ 1 8 d Wk)
    (h3 : m (d.tc.loc Cert.KernelIdeal.main_arg3) = Layout.block ⟨2, ![1024, 1024]⟩ ⟨2, ![1024, 8192]⟩ 1 8 d Wv)
    (h4 : m (d.tc.loc Cert.KernelIdeal.main_arg4) = Layout.block ⟨2, ![1024, 1024]⟩ ⟨2, ![8192, 1024]⟩ 0 8 d Wo)
    (i : Fin 512) (j : Fin 1024) :
    Cert.KernelIdeal.Run.shareOf m d c i j
      = share div_small (fun r k => X (ix3 c r k)) (fun k C => Wq (ix2 k (place d C))) (fun k C => Wk (ix2 k (place d C)))
        (fun k C => Wv (ix2 k (place d C))) (fun C j => Wo (ix2 (place d C) j)) i j := by
  unfold Cert.KernelIdeal.Run.shareOf
  rw [h0, h1, h2, h3, h4]
  congr 1
  · exact funext fun r => funext fun k => rows_at X c r k
  · exact funext fun k => funext fun C => columns_at Wq d k C
  · exact funext fun k => funext fun C => columns_at Wk d k C
  · exact funext fun k => funext fun C => columns_at Wv d k C
  · exact funext fun C => funext fun j => outs_at Wo d C j

/-- Whatever the arrays, a device's result is its block of the reference's, and neither program writes an argument. -/
theorem algebraic : Cert.algebraic_KernelIdeal_ReferenceIdeal := by
  intro m g m' g' _ hagree
  refine ⟨Cert.ReferenceIdeal.Value.res_out0 m' 0, ?_, ?_⟩
  · refine (θ_run Cert.KernelIdeal.defs _ _).mono (fun r h c => ?_) (Cert.KernelIdeal.Run.run_main m g)
    obtain ⟨⟨a0, a1, a2, a3, a4⟩, hr, -⟩ := h.1 c
    refine ⟨hr.trans ?_, a0, a1, a2, a3, a4⟩
    refine funext fun (q : (⟨3, ![1, 512, 1024]⟩ : Shape).Idx) => ?_
    obtain ⟨z, i, j, rfl⟩ : ∃ (z : Fin 1) (i : Fin 512) (j : Fin 1024), q = ix3 z i j := ⟨_, _, _, eq_ix3 q⟩
    obtain rfl : z = 0 := Subsingleton.elim _ _
    refine (up_at _ i j).trans ?_
    refine Eq.trans ?_ (rows_at _ c i j).symm
    refine Eq.trans ?_ (Cert.ReferenceIdeal.Value.result_at m' 0 c i j).symm
    rw [share_cut, Cert.KernelIdeal.Run.result_at]
    exact Finset.sum_congr rfl fun d _ => shareOf_eq m _ _ _ _ _ d c (hagree c).1 (hagree d).2.1 (hagree d).2.2.1 (hagree d).2.2.2.1
      (hagree d).2.2.2.2 i j
  · exact (θ_run Cert.ReferenceIdeal.defs _ _).mono (fun r h => h 0) (Cert.ReferenceIdeal.Value.run m' g')

end Cert.Proof

end
-- ==== Proof.lean ====
/- The five claims, put together: the two kernel programs' frames are the run of their one text (Proof/Frames.lean), the
   reference's frame is that of a program of host operations, and the kernel's values are the reference's
   (Proof/Equation.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

open Idealize.ShloMosaic Idealize.SL.Sem

/-- The reference writes none of its arguments and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
